-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_valid [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_valid [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_valid [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_valid : Cert.Pre_valid.Facts),
    quiescent_Kernel (hKernel := hKernel)
    ∧ quiescent_KernelIdeal (hKernelIdeal := hKernelIdeal)
    ∧ quiescent_KernelIdeal_pre_valid (hKernelIdeal := hKernelIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ preserves_Kernel_KernelIdeal
    ∧ algebraic_KernelIdeal_ReferenceIdeal_pre_valid (hKernelIdeal := hKernelIdeal) (hReferenceIdeal := hReferenceIdeal) (hPre_valid := hPre_valid)
-- ==== Pre_valid.lean ====
abbrev S2048x128 : Shape := ⟨2, ![2048, 128]⟩
abbrev S2048 : Shape := ⟨1, ![2048]⟩
abbrev S_ : Shape := ⟨0, ![]⟩
abbrev S2048x1 : Shape := ⟨2, ![2048, 1]⟩

class Facts : Prop where
  reducesTo_S2048x128_S2048_d1 : S2048x128.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  reducesTo_S2048x1_S_d0_1 : S2048x1.ReducesTo [0, 1] S_
  bcast_S_S2048 : S_.BroadcastsInDim S2048 (![] : Fin 0 → Fin S2048.rank)
  reducesTo_S2048_S_d0 : S2048.ReducesTo [0] S_

variable [Facts]

def fn_norm {F : FTy → Type} [FloatOps F] (arg0 : FVec F S2048x128 .f32) : FVec F S2048x1 .f32 :=
  let v0 : FVec F S2048x128 .f32 := mulf arg0 arg0
  let cst : FVec F S_ .f32 := constant S_ .f32 0x00000000#32
  let v1 : FVec F S2048 .f32 := (fun x v => Host.reduceAdd x v reducesTo_S2048x128_S2048_d1 h_S_) v0 cst
  let v2 : FVec F S2048x1 .f32 := broadcastInDim S2048x1 ![0] bcast_S2048_S2048x1_0 v1
  let v3 : FVec F S2048x1 .f32 := Host.sqrt v2
  v3

def fn {F : FTy → Type} [FloatOps F] (main_arg0 : FVec F S2048x128 .f32) (main_arg1 : IVec S2048 32) : IVec S_ 1 :=
  let main_v0 : FVec F S2048x1 .f32 := fn_norm (F := F) main_arg0
  let main_cst : FVec F S_ .f32 := constant S_ .f32 0x2B8CBCCC#32
  let main_v1 : FVec F S2048x1 .f32 := broadcastInDim S2048x1 ![] bcast_S_S2048x1 main_cst
  let main_v2 : IVec S2048x1 1 := cmpf .oge main_v0 main_v1
  let main_cst_0 : FVec F S_ .f32 := constant S_ .f32 0x7F800000#32
  let main_v3 : FVec F S2048x1 .f32 := broadcastInDim S2048x1 ![] bcast_S_S2048x1 main_cst_0
  let main_v4 : IVec S2048x1 1 := cmpf .olt main_v0 main_v3
  let main_v5 : IVec S2048x1 1 := andi main_v2 main_v4
  let main_c : IVec S_ 1 := constantI S_ 1 1#1
  let main_v6 : IVec S_ 1 := (fun x v => Host.reduce IntOp.andi x v reducesTo_S2048x1_S_d0_1 h_S_) main_v5 main_c
  let main_c_1 : IVec S_ 32 := constantI S_ 32 0#32
  let main_v7 : IVec S2048 32 := broadcastInDim S2048 ![] bcast_S_S2048 main_c_1
  let main_v8 : IVec S2048 1 := cmpi .sge main_arg1 main_v7
  let main_c_2 : IVec S_ 32 := constantI S_ 32 64#32
  let main_v9 : IVec S2048 32 := broadcastInDim S2048 ![] bcast_S_S2048 main_c_2
  let main_v10 : IVec S2048 1 := cmpi .slt main_arg1 main_v9
  let main_v11 : IVec S2048 1 := andi main_v8 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v6 main_v12
  main_v13
-- ==== Kernel.lean ====
abbrev S2048x128 : Shape := ⟨2, ![2048, 128]⟩
abbrev S2048 : Shape := ⟨1, ![2048]⟩
abbrev S2048x1 : Shape := ⟨2, ![2048, 1]⟩
abbrev S1x2048 : Shape := ⟨2, ![1, 2048]⟩
abbrev S1x1 : Shape := ⟨2, ![1, 1]⟩
abbrev S2 : Shape := ⟨1, ![2]⟩
abbrev S2048x2048 : Shape := ⟨2, ![2048, 2048]⟩
abbrev S2048x1024 : Shape := ⟨2, ![2048, 1024]⟩
abbrev S2048x512 : Shape := ⟨2, ![2048, 512]⟩
abbrev S2048x256 : Shape := ⟨2, ![2048, 256]⟩
abbrev S2048x11 : Shape := ⟨2, ![2048, 11]⟩
abbrev S2048x10 : Shape := ⟨2, ![2048, 10]⟩
abbrev S1 : Shape := ⟨1, ![1]⟩
abbrev S_ : Shape := ⟨0, ![]⟩

abbrev nBuf : Space → Nat
  | .hbm => 6
  | .vmem => 6
  | .smem => 1
  | _ => 0

abbrev bufTy : (tb : Table) → Fin (tcTables nBuf tb) → BufTy
  | .hbm, ⟨0, _⟩ => ⟨S2048x128, .f32⟩
  | .hbm, ⟨1, _⟩ => ⟨S2048, .i32⟩
  | .hbm, ⟨2, _⟩ => ⟨S2048x1, .i32⟩
  | .hbm, ⟨3, _⟩ => ⟨S1x2048, .i32⟩
  | .hbm, ⟨4, _⟩ => ⟨S1x1, .f32⟩
  | .hbm, ⟨5, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S2048x1, .i32⟩
  | .local _ .vmem, ⟨3, _⟩ => ⟨S2048x1, .i32⟩
  | .local _ .vmem, ⟨4, _⟩ => ⟨S1x2048, .i32⟩
  | .local _ .vmem, ⟨5, _⟩ => ⟨S1x1, .f32⟩
  | .local _ .smem, ⟨0, _⟩ => ⟨S2, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def k0_cond2 (i : grid0.Coords) : BitVec 1 :=
  let arg0 : BitVec 32 := BitVec.ofNat 32 (i 0).val
  let c0_i32_123 : BitVec 32 := 0#32
  let v559 : BitVec 1 := Scalar.cmpi .eq arg0 c0_i32_123
  let v560 : BitVec 32 := Scalar.extui v559
  let c0_i32_124 : BitVec 32 := 0#32
  let v561 : BitVec 1 := Scalar.cmpi .ne v560 c0_i32_124
  v561

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S2048x128 : Shape := ⟨2, ![2048, 128]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S128x2048 : Shape := ⟨2, ![128, 2048]⟩
abbrev S10 : Shape := ⟨1, ![10]⟩
abbrev S1 : Shape := ⟨1, ![1]⟩
abbrev S11 : Shape := ⟨1, ![11]⟩
abbrev S11x1x1 : Shape := ⟨3, ![11, 1, 1]⟩
abbrev S1x2048x2048 : Shape := ⟨3, ![1, 2048, 2048]⟩
abbrev S11x2048x2048 : Shape := ⟨3, ![11, 2048, 2048]⟩
abbrev S11x2048 : Shape := ⟨2, ![11, 2048]⟩
abbrev S2048x11 : Shape := ⟨2, ![2048, 11]⟩

abbrev nBuf : Space → Nat
  | .hbm => 155
  | .vmem => 0
  | .smem => 0
  | _ => 0

abbrev hbmTy0_0 (i : Nat) : BufTy := match i % 128 with
  | 0 => ⟨S2048x128, .f32⟩
  | 1 => ⟨S2048, .i32⟩
  | 2 => ⟨S2048x128, .f32⟩
  | 3 => ⟨S_, .f32⟩
  | 4 => ⟨S2048, .f32⟩
  | 5 => ⟨S2048x1, .f32⟩
  | 6 => ⟨S2048x1, .f32⟩
  | 7 => ⟨S_, .f32⟩
  | 8 => ⟨S2048x1, .f32⟩
  | 9 => ⟨S2048x1, .f32⟩
  | 10 => ⟨S2048x128, .f32⟩
  | 11 => ⟨S2048x128, .f32⟩
  | 12 => ⟨S2048x1, .i32⟩
  | 13 => ⟨S1x2048, .i32⟩
  | 14 => ⟨S2048x2048, .i32⟩
  | 15 => ⟨S2048x2048, .i32⟩
  | 16 => ⟨S2048x2048, .i1⟩
  | 17 => ⟨S2048x2048, .i32⟩
  | 18 => ⟨S2048x2048, .i32⟩
  | 19 => ⟨S_, .i32⟩
  | 20 => ⟨S2048x2048, .i32⟩
  | 21 => ⟨S2048x2048, .i32⟩
  | 22 => ⟨S2048x2048, .i1⟩
  | 23 => ⟨S2048x2048, .i1⟩
  | 24 => ⟨S2048x2048, .i1⟩
  | 25 => ⟨S2048x2048, .f32⟩
  | 26 => ⟨S2048x2048, .i1⟩
  | 27 => ⟨S2048x2048, .f32⟩
  | 28 => ⟨S_, .f32⟩
  | 29 => ⟨S2048, .f32⟩
  | 30 => ⟨S2048x128, .f32⟩
  | 31 => ⟨S_, .f32⟩
  | 32 => ⟨S2048, .f32⟩
  | 33 => ⟨S2048x1, .f32⟩
  | 34 => ⟨S1x2048, .f32⟩
  | 35 => ⟨S2048x2048, .f32⟩
  | 36 => ⟨S2048x2048, .f32⟩
  | 37 => ⟨S2048x2048, .f32⟩
  | 38 => ⟨S128x2048, .f32⟩
  | 39 => ⟨S2048x2048, .f32⟩
  | 40 => ⟨S_, .f32⟩
  | 41 => ⟨S2048x2048, .f32⟩
  | 42 => ⟨S2048x2048, .f32⟩
  | 43 => ⟨S2048x2048, .f32⟩
  | 44 => ⟨S_, .f32⟩
  | 45 => ⟨S2048x2048, .f32⟩
  | 46 => ⟨S2048x2048, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S10, .f32⟩
  | 58 => ⟨S_, .f32⟩
  | 59 => ⟨S10, .f32⟩
  | 60 => ⟨S10, .f32⟩
  | 61 => ⟨S1, .f32⟩
  | 62 => ⟨S_, .f32⟩
  | 63 => ⟨S10, .f32⟩
  | 64 => ⟨S10, .f32⟩
  | 65 => ⟨S10, .f32⟩
  | 66 => ⟨S10, .f32⟩
  | 67 => ⟨S1, .f32⟩
  | 68 => ⟨S10, .f32⟩
  | 69 => ⟨S10, .f32⟩
  | 70 => ⟨S10, .f32⟩
  | 71 => ⟨S1, .f32⟩
  | 72 => ⟨S11, .f32⟩
  | 73 => ⟨S11x1x1, .f32⟩
  | 74 => ⟨S1x2048x2048, .f32⟩
  | 75 => ⟨S11x2048x2048, .f32⟩
  | 76 => ⟨S11x2048x2048, .f32⟩
  | 77 => ⟨S11x2048x2048, .f32⟩
  | 78 => ⟨S11x2048x2048, .f32⟩
  | 79 => ⟨S11x2048x2048, .f32⟩
  | 80 => ⟨S11x2048x2048, .f32⟩
  | 81 => ⟨S_, .f32⟩
  | 82 => ⟨S11x2048x2048, .f32⟩
  | 83 => ⟨S11x2048x2048, .f32⟩
  | 84 => ⟨S_, .f32⟩
  | 85 => ⟨S11x2048x2048, .f32⟩
  | 86 => ⟨S11x2048x2048, .f32⟩
  | 87 => ⟨S1x2048x2048, .f32⟩
  | 88 => ⟨S11x2048x2048, .f32⟩
  | 89 => ⟨S11x2048x2048, .f32⟩
  | 90 => ⟨S_, .f32⟩
  | 91 => ⟨S11x2048, .f32⟩
  | 92 => ⟨S2048x11, .f32⟩
  | 93 => ⟨S1x2048x2048, .f32⟩
  | 94 => ⟨S11x2048x2048, .f32⟩
  | 95 => ⟨S11x2048x2048, .f32⟩
  | 96 => ⟨S_, .f32⟩
  | 97 => ⟨S11x2048, .f32⟩
  | 98 => ⟨S2048x11, .f32⟩
  | 99 => ⟨S_, .f32⟩
  | 100 => ⟨S_, .f32⟩
  | 101 => ⟨S2048x11, .f32⟩
  | 102 => ⟨S2048x11, .f32⟩
  | 103 => ⟨S_, .f32⟩
  | 104 => ⟨S_, .f32⟩
  | 105 => ⟨S2048x11, .f32⟩
  | 106 => ⟨S2048x11, .f32⟩
  | 107 => ⟨S_, .f32⟩
  | 108 => ⟨S2048x11, .f32⟩
  | 109 => ⟨S2048x11, .i1⟩
  | 110 => ⟨S_, .f32⟩
  | 111 => ⟨S2048x11, .f32⟩
  | 112 => ⟨S2048x11, .i1⟩
  | 113 => ⟨S2048x11, .i1⟩
  | 114 => ⟨S_, .f32⟩
  | 115 => ⟨S_, .f32⟩
  | 116 => ⟨S2048x11, .f32⟩
  | 117 => ⟨S2048x11, .f32⟩
  | 118 => ⟨S2048x11, .f32⟩
  | 119 => ⟨S_, .f32⟩
  | 120 => ⟨S_, .f32⟩
  | 121 => ⟨S2048x11, .f32⟩
  | 122 => ⟨S2048x11, .f32⟩
  | 123 => ⟨S_, .f32⟩
  | 124 => ⟨S2048, .f32⟩
  | 125 => ⟨S_, .f32⟩
  | 126 => ⟨S2048, .f32⟩
  | 127 => ⟨S2048, .i1⟩
  | _ => ⟨S2048x128, .f32⟩

abbrev hbmTy0_1 (i : Nat) : BufTy := match i % 128 with
  | 0 => ⟨S_, .f32⟩
  | 1 => ⟨S2048, .f32⟩
  | 2 => ⟨S_, .f32⟩
  | 3 => ⟨S_, .f32⟩
  | 4 => ⟨S2048, .f32⟩
  | 5 => ⟨S2048, .f32⟩
  | 6 => ⟨S2048, .f32⟩
  | 7 => ⟨S_, .f32⟩
  | 8 => ⟨S_, .f32⟩
  | 9 => ⟨S2048, .f32⟩
  | 10 => ⟨S2048, .f32⟩
  | 11 => ⟨S_, .f32⟩
  | 12 => ⟨S2048, .f32⟩
  | 13 => ⟨S2048, .f32⟩
  | 14 => ⟨S2048, .f32⟩
  | 15 => ⟨S2048, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S2048, .f32⟩
  | 23 => ⟨S2048, .f32⟩
  | 24 => ⟨S_, .f32⟩
  | 25 => ⟨S_, .f32⟩
  | 26 => ⟨S_, .f32⟩
  | _ => ⟨S2048x128, .f32⟩

abbrev hbmTy (i : Nat) : BufTy := match i / 128 with
  | 0 => hbmTy0_0 i
  | 1 => hbmTy0_1 i
  | _ => ⟨S2048x128, .f32⟩

abbrev bufTy : (tb : Table) → Fin (tcTables nBuf tb) → BufTy
  | .hbm, ⟨i, _⟩ => hbmTy i
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_cst_5 : Ref sig .tc := ⟨.hbm, 48, rfl⟩
abbrev main_v35 : Ref sig .tc := ⟨.hbm, 49, rfl⟩
abbrev main_cst_6 : Ref sig .tc := ⟨.hbm, 50, rfl⟩
abbrev main_cst_7 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_cst : Ref sig .tc := ⟨.hbm, 55, rfl⟩
abbrev main_call1_v3 : Ref sig .tc := ⟨.hbm, 56, rfl⟩
abbrev main_call1_v4 : Ref sig .tc := ⟨.hbm, 57, rfl⟩
abbrev main_call1_cst_0 : Ref sig .tc := ⟨.hbm, 58, rfl⟩
abbrev main_call1_v5 : Ref sig .tc := ⟨.hbm, 59, rfl⟩
abbrev main_call1_v6 : Ref sig .tc := ⟨.hbm, 60, rfl⟩
abbrev main_call1_v7 : Ref sig .tc := ⟨.hbm, 61, rfl⟩
abbrev main_call1_cst_1 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_v15 : Ref sig .tc := ⟨.hbm, 70, rfl⟩
abbrev main_call1_v16 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_cst_8 : Ref sig .tc := ⟨.hbm, 81, rfl⟩
abbrev main_v45 : Ref sig .tc := ⟨.hbm, 82, rfl⟩
abbrev main_v46 : Ref sig .tc := ⟨.hbm, 83, rfl⟩
abbrev main_call2_cst : Ref sig .tc := ⟨.hbm, 84, rfl⟩
abbrev main_call2_v0 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_cst_9 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_cst_10 : Ref sig .tc := ⟨.hbm, 96, rfl⟩
abbrev main_v56 : Ref sig .tc := ⟨.hbm, 97, rfl⟩
abbrev main_v57 : Ref sig .tc := ⟨.hbm, 98, rfl⟩
abbrev main_call3_call0_cst : Ref sig .tc := ⟨.hbm, 99, rfl⟩
abbrev main_call3_call0_v0 : Ref sig .tc := ⟨.hbm, 100, rfl⟩
abbrev main_v58 : Ref sig .tc := ⟨.hbm, 101, rfl⟩
abbrev main_v59 : Ref sig .tc := ⟨.hbm, 102, rfl⟩
abbrev main_call4_call0_cst : Ref sig .tc := ⟨.hbm, 103, rfl⟩
abbrev main_call4_call0_v0 : Ref sig .tc := ⟨.hbm, 104, rfl⟩
abbrev main_v60 : Ref sig .tc := ⟨.hbm, 105, rfl⟩
abbrev main_v61 : Ref sig .tc := ⟨.hbm, 106, rfl⟩
abbrev main_cst_11 : Ref sig .tc := ⟨.hbm, 107, rfl⟩
abbrev main_v62 : Ref sig .tc := ⟨.hbm, 108, rfl⟩
abbrev main_v63 : Ref sig .tc := ⟨.hbm, 109, rfl⟩
abbrev main_cst_12 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_cst_13 : Ref sig .tc := ⟨.hbm, 114, rfl⟩
abbrev main_call5_v0 : Ref sig .tc := ⟨.hbm, 115, rfl⟩
abbrev main_call5_v1 : Ref sig .tc := ⟨.hbm, 116, rfl⟩
abbrev main_v67 : Ref sig .tc := ⟨.hbm, 117, rfl⟩
abbrev main_v68 : Ref sig .tc := ⟨.hbm, 118, rfl⟩
abbrev main_cst_14 : Ref sig .tc := ⟨.hbm, 119, rfl⟩
abbrev main_call6_v0 : Ref sig .tc := ⟨.hbm, 120, rfl⟩
abbrev main_call6_v1 : Ref sig .tc := ⟨.hbm, 121, rfl⟩
abbrev main_v69 : Ref sig .tc := ⟨.hbm, 122, rfl⟩
abbrev main_cst_15 : Ref sig .tc := ⟨.hbm, 123, rfl⟩
abbrev main_v70 : Ref sig .tc := ⟨.hbm, 124, rfl⟩
abbrev main_cst_16 : Ref sig .tc := ⟨.hbm, 125, rfl⟩
abbrev main_v71 : Ref sig .tc := ⟨.hbm, 126, rfl⟩
abbrev main_v72 : Ref sig .tc := ⟨.hbm, 127, rfl⟩
abbrev main_cst_17 : Ref sig .tc := ⟨.hbm, 128, rfl⟩
abbrev main_v73 : Ref sig .tc := ⟨.hbm, 129, rfl⟩
abbrev main_cst_18 : Ref sig .tc := ⟨.hbm, 130, rfl⟩
abbrev main_call7_v0 : Ref sig .tc := ⟨.hbm, 131, rfl⟩
abbrev main_call7_v1 : Ref sig .tc := ⟨.hbm, 132, rfl⟩
abbrev main_v74 : Ref sig .tc := ⟨.hbm, 133, rfl⟩
abbrev main_v75 : Ref sig .tc := ⟨.hbm, 134, rfl⟩
abbrev main_cst_19 : Ref sig .tc := ⟨.hbm, 135, rfl⟩
abbrev main_call8_v0 : Ref sig .tc := ⟨.hbm, 136, rfl⟩
abbrev main_call8_v1 : Ref sig .tc := ⟨.hbm, 137, rfl⟩
abbrev main_v76 : Ref sig .tc := ⟨.hbm, 138, rfl⟩
abbrev main_cst_20 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_cst_21 : Ref sig .tc := ⟨.hbm, 144, rfl⟩
abbrev main_v81 : Ref sig .tc := ⟨.hbm, 145, rfl⟩
abbrev main_cst_22 : Ref sig .tc := ⟨.hbm, 146, rfl⟩
abbrev main_v82 : Ref sig .tc := ⟨.hbm, 147, rfl⟩
abbrev main_cst_23 : Ref sig .tc := ⟨.hbm, 148, rfl⟩
abbrev main_call9_v0 : Ref sig .tc := ⟨.hbm, 149, rfl⟩
abbrev main_call9_v1 : Ref sig .tc := ⟨.hbm, 150, rfl⟩
abbrev main_v83 : Ref sig .tc := ⟨.hbm, 151, rfl⟩
abbrev main_cst_24 : Ref sig .tc := ⟨.hbm, 152, rfl⟩
abbrev main_v84 : Ref sig .tc := ⟨.hbm, 153, rfl⟩
abbrev main_v85 : Ref sig .tc := ⟨.hbm, 154, rfl⟩

abbrev nD : Nat := 1
abbrev τ : Topo := Topo.v7x

variable {F : FTy → Type} [FloatOps F]
-- ==== Proof.Columns.lean ====
module

public import proofs.«01_k».proof.Proof.Gen.KernelIdeal.Frame
public import Idealize.ShloMosaic.Lib.Pointwise
public import Idealize.ShloMosaic.Lib.Claim

@[expose] public section

set_option maxRecDepth 16384

noncomputable section

/-! The kernel's eleven columns of cumulative histogram values, each read at one row as a plain sum. -/

namespace Cert.KernelIdeal.Columns

open Idealize.ShloMosaic Idealize.ShloMosaic.TcCoe Idealize.ShloMosaic.Tactic Idealize.SL.Sem
open Cert.KernelIdeal Cert.KernelIdeal.Gen
open scoped BigOperators

/-- The bf16 words of the shifts `k - 4`. -/
def wordB : Fin 11 → BitVec 16 :=
  ![0xC080#16, 0xC040#16, 0xC000#16, 0xBF80#16, 0x0000#16, 0x3F80#16, 0x4000#16, 0x4040#16, 0x4080#16, 0x40A0#16, 0x40C0#16]

/-- The f32 words of the shifts `k - 4`. -/
def wordF : Fin 11 → BitVec 32 :=
  ![0xC0800000#32, 0xC0400000#32, 0xC0000000#32, 0xBF800000#32, 0x00000000#32, 0x3F800000#32, 0x40000000#32, 0x40400000#32,
    0x40800000#32, 0x40A00000#32, 0x40C00000#32]

/-- A value shifted by `c` and clipped to `[0, 1]`. -/
def clip (x c : EReal) : EReal := min 1 (max 0 (x + c))

/-- The clipped matrix of one edge. -/
def clipMat (b : BitVec 16) (G : FVec Ideal S2048x2048 .bf16) : FVec Ideal S2048x2048 .bf16 :=
  minimumf (broadcast S2048x2048 (Scalar.ofBits .bf16 0x3F80#16))
    (maximumf (broadcast S2048x2048 (Scalar.ofBits .bf16 0x0000#16)) (addf G (broadcast S2048x2048 (Scalar.ofBits .bf16 b))))

/-- The clipped diagonal of one edge. -/
def clipVec (b : BitVec 32) (D : FVec Ideal S2048 .f32) : FVec Ideal S2048 .f32 :=
  minimumf (broadcast S2048 (Scalar.ofBits .f32 0x3F800000#32))
    (maximumf (broadcast S2048 (Scalar.ofBits .f32 0x00000000#32)) (addf D (broadcast S2048 (Scalar.ofBits .f32 b))))

/-- The sum of every row, by halving the columns down to 128 and adding those. -/
def rowTree (X : FVec Ideal S2048x2048 .bf16) : FVec Ideal S2048 .f32 :=
  let a : FVec Ideal S2048x1024 .bf16 := addf (extractStridedSlice S2048x1024 ![0, 0] X slices_S2048x2048_o0_0_S2048x1024)
    (extractStridedSlice S2048x1024 ![0, 1024] X slices_S2048x2048_o0_1024_S2048x1024)
  let b : FVec Ideal S2048x512 .bf16 := addf (extractStridedSlice S2048x512 ![0, 0] a slices_S2048x1024_o0_0_S2048x512)
    (extractStridedSlice S2048x512 ![0, 512] a slices_S2048x1024_o0_512_S2048x512)
  let c : FVec Ideal S2048x256 .bf16 := addf (extractStridedSlice S2048x256 ![0, 0] b slices_S2048x512_o0_0_S2048x256)
    (extractStridedSlice S2048x256 ![0, 256] b slices_S2048x512_o0_256_S2048x256)
  let d : FVec Ideal S2048x128 .bf16 := addf (extractStridedSlice S2048x128 ![0, 0] c slices_S2048x256_o0_0_S2048x128)
    (extractStridedSlice S2048x128 ![0, 128] c slices_S2048x256_o0_128_S2048x128)
  multiReduction .add [1] S2048 (extf .f32 d bitsLt_bf16_f32) 0x00000000#32 reduces_S2048x128_S2048 (.inl rfl) rfl

/-- The product of the clipped matrix with the class columns. -/
def classSums (b : BitVec 16) (G : FVec Ideal S2048x2048 .bf16) (Y : FVec Ideal S2048x128 .bf16) : FVec Ideal S2048x128 .f32 :=
  matmul dot_S2048x2048_S2048x128_S2048x128_1_0_0_1_n_n none (clipMat b G) Y (constant S2048x128 .f32 0x00000000#32)

/-- Column `k` of the positive cumulative histogram. -/
def posCol (k : Fin 11) (G : FVec Ideal S2048x2048 .bf16) (D : FVec Ideal S2048 .f32) (Y : FVec Ideal S2048x128 .bf16)
    (Z : FVec Ideal S2048x128 .f32) (S : FVec Ideal S2048x2048 .bf16) : FVec Ideal S2048 .f32 :=
  if k.val < 2 then
    subf (multiReduction .add [1] S2048 (mulf (classSums (wordB k) G Y) Z) 0x00000000#32 reduces_S2048x128_S2048 (.inl rfl) rfl)
      (clipVec (wordF k) D)
  else subf (rowTree (mulf (clipMat (wordB k) G) S)) (clipVec (wordF k) D)

/-- Column `k` of the cumulative histogram of all pairs. -/
def allCol (k : Fin 11) (G : FVec Ideal S2048x2048 .bf16) (D : FVec Ideal S2048 .f32) (Y : FVec Ideal S2048x128 .bf16) :
    FVec Ideal S2048 .f32 :=
  if k.val < 2 then
    subf (shapeCast S2048 (extractStridedSlice S2048x1 ![0, 64] (classSums (wordB k) G Y) slices_S2048x128_o0_64_S2048x1)
      shapeCasts_S2048x1_S2048) (clipVec (wordF k) D)
  else subf (rowTree (clipMat (wordB k) G)) (clipVec (wordF k) D)

/-- A sum over a range of even length is the sum over its first half of both halves' terms. -/
theorem sum_halves {n : Nat} (f : Fin (n + n) → EReal) :
    ∑ j, f j = ∑ x : Fin n, (f ⟨x.val, by omega⟩ + f ⟨n + x.val, by omega⟩) := by
  rw [Fin.sum_univ_add, Finset.sum_add_distrib]
  rfl

/-- Four halvings of 2048 columns. -/
theorem sum_tree (f : Fin 2048 → EReal) :
    ∑ j, f j = ∑ x : Fin 128,
      ((((f ⟨x.val, by omega⟩ + f ⟨1024 + x.val, by omega⟩) + (f ⟨512 + x.val, by omega⟩ + f ⟨1024 + (512 + x.val), by omega⟩))
        + ((f ⟨256 + x.val, by omega⟩ + f ⟨1024 + (256 + x.val), by omega⟩)
          + (f ⟨512 + (256 + x.val), by omega⟩ + f ⟨1024 + (512 + (256 + x.val)), by omega⟩)))
      + (((f ⟨128 + x.val, by omega⟩ + f ⟨1024 + (128 + x.val), by omega⟩)
          + (f ⟨512 + (128 + x.val), by omega⟩ + f ⟨1024 + (512 + (128 + x.val)), by omega⟩))
        + ((f ⟨256 + (128 + x.val), by omega⟩ + f ⟨1024 + (256 + (128 + x.val)), by omega⟩)
          + (f ⟨512 + (256 + (128 + x.val)), by omega⟩ + f ⟨1024 + (512 + (256 + (128 + x.val))), by omega⟩)))) :=
  (sum_halves (n := 1024) f).trans ((sum_halves (n := 512) _).trans ((sum_halves (n := 256) _).trans (sum_halves (n := 128) _)))

theorem rowTree_apply (X : FVec Ideal S2048x2048 .bf16) (i : Fin 2048) : rowTree X (ix1 i) = ∑ j : Fin 2048, X (ix2 i j) := by
  rw [sum_tree]
  pointwise [rowTree]

theorem clipMat_apply (b : BitVec 16) (G : FVec Ideal S2048x2048 .bf16) (i j : Fin 2048) :
    clipMat b G (ix2 i j) = clip (G (ix2 i j)) (Ideal.ofBits .bf16 b) := by
  pointwise [clipMat, clip]

theorem clipVec_apply (b : BitVec 32) (D : FVec Ideal S2048 .f32) (i : Fin 2048) :
    clipVec b D (ix1 i) = clip (D (ix1 i)) (Ideal.ofBits .f32 b) := by
  pointwise [clipVec, clip]

theorem classSums_apply (b : BitVec 16) (G : FVec Ideal S2048x2048 .bf16) (Y : FVec Ideal S2048x128 .bf16) (i : Fin 2048) (d : Fin 128) :
    classSums b G Y (ix2 i d) = ∑ j : Fin 2048, clip (G (ix2 i j)) (Ideal.ofBits .bf16 b) * Y (ix2 j d) := by
  pointwise [classSums, clipMat, clip]

/-- A positive column at a row: the first two by the class columns, the others by the same-class matrix. -/
theorem posCol_apply (k : Fin 11) (G : FVec Ideal S2048x2048 .bf16) (D : FVec Ideal S2048 .f32) (Y : FVec Ideal S2048x128 .bf16)
    (Z : FVec Ideal S2048x128 .f32) (S : FVec Ideal S2048x2048 .bf16) (i : Fin 2048) :
    posCol k G D Y Z S (ix1 i) = (if k.val < 2
        then ∑ d : Fin 128, (∑ j : Fin 2048, clip (G (ix2 i j)) (Ideal.ofBits .bf16 (wordB k)) * Y (ix2 j d)) * Z (ix2 i d)
        else ∑ j : Fin 2048, clip (G (ix2 i j)) (Ideal.ofBits .bf16 (wordB k)) * S (ix2 i j))
      - clip (D (ix1 i)) (Ideal.ofBits .f32 (wordF k)) := by
  unfold posCol
  split
  · rw [← clipVec_apply]
    pointwise [classSums, clipMat, clip]
  · rw [← clipVec_apply]
    refine congrArg (fun t : EReal => t - clipVec (wordF k) D (ix1 i)) ((rowTree_apply _ i).trans (Finset.sum_congr rfl fun j _ => ?_))
    exact congrArg (fun t : EReal => t * S (ix2 i j)) (clipMat_apply _ G i j)

/-- An all-pairs column at a row. -/
theorem allCol_apply (k : Fin 11) (G : FVec Ideal S2048x2048 .bf16) (D : FVec Ideal S2048 .f32) (Y : FVec Ideal S2048x128 .bf16) (i : Fin 2048) :
    allCol k G D Y (ix1 i) = (if k.val < 2
        then ∑ j : Fin 2048, clip (G (ix2 i j)) (Ideal.ofBits .bf16 (wordB k)) * Y (ix2 j (64 : Fin 128))
        else ∑ j : Fin 2048, clip (G (ix2 i j)) (Ideal.ofBits .bf16 (wordB k)))
      - clip (D (ix1 i)) (Ideal.ofBits .f32 (wordF k)) := by
  unfold allCol
  split
  · rw [← clipVec_apply]
    pointwise [classSums, clipMat, clip]
  · rw [← clipVec_apply]
    exact congrArg (fun t : EReal => t - clipVec (wordF k) D (ix1 i)) ((rowTree_apply _ i).trans (Finset.sum_congr rfl fun j _ => clipMat_apply _ G i j))

/-- The bf16 shifts are the reals `k - 4`. -/
theorem wordB_val (k : Fin 11) : Ideal.ofBits .bf16 (wordB k) = (((k.val : ℝ) - 4 : ℝ) : EReal) := by
  fin_cases k <;> simp [wordB, Ideal.ofBits, Ideal.ieee, -EReal.coe_mul, -EReal.coe_neg, -EReal.coe_sub] <;> norm_num

/-- The f32 shifts are the reals `k - 4`. -/
theorem wordF_val (k : Fin 11) : Ideal.ofBits .f32 (wordF k) = (((k.val : ℝ) - 4 : ℝ) : EReal) := by
  fin_cases k <;> simp [wordF, Ideal.ofBits, Ideal.ieee, -EReal.coe_mul, -EReal.coe_neg, -EReal.coe_sub] <;> norm_num

end Cert.KernelIdeal.Columns

end
-- ==== Proof.KernelValue.lean ====
module

public import proofs.«01_k».proof.Proof.Gen.KernelIdeal.Frame
public import proofs.«01_k».proof.Proof.Columns
public import Idealize.ShloMosaic.Lib.Pointwise
public import Idealize.ShloMosaic.Lib.Pipeline.ValueKit
public import Idealize.ShloMosaic.Lib.Claim

@[expose] public section

set_option maxRecDepth 16384

noncomputable section

/-! What the kernel's pallas_call leaves in its output array, as a function of its five input arrays. -/

namespace Cert.KernelIdeal.Value1

open Idealize.ShloMosaic Idealize.ShloMosaic.TcCoe Idealize.ShloMosaic.Tactic Idealize.SL.Sem
open Cert.KernelIdeal Cert.KernelIdeal.Gen Cert.KernelIdeal.Columns
open scoped BigOperators

variable (m : (ℓ : Loc nD τ sig) → Buf (Elt Ideal) ℓ)

/-- Column `k` of the positive histogram, from the kernel's input blocks. -/
def pos (x0 x1 : Vec Ideal S2048x128 .f32) (x2 x3 : Vec Ideal S2048x1 .i32) (x4 : Vec Ideal S1x2048 .i32) (k : Fin 11) : FVec Ideal S2048 .f32 :=
  posCol k (k0_pay5 x0 x1) (k0_pay6 x1) (k0_pay7 x2) (k0_pay9 (iota Kind.tc S2048x128 32 [1] iota_S2048x128_d1_w32) x3) (k0_pay10 x3 x4)

/-- Column `k` of the histogram of all pairs, from the kernel's input blocks. -/
def all (x0 x1 : Vec Ideal S2048x128 .f32) (x2 : Vec Ideal S2048x1 .i32) (k : Fin 11) : FVec Ideal S2048 .f32 :=
  allCol k (k0_pay5 x0 x1) (k0_pay6 x1) (k0_pay7 x2)

/-- The loss of eleven positive columns and eleven all-pairs columns. -/
def lossOf (p a : Fin 11 → FVec Ideal S2048 .f32) : Vec Ideal S1x1 .f32 :=
  k0_pay3 (F := Ideal)
    (k0_pay1 (F := Ideal) (k0_pay69 (p 3) (p 4) (p 5) (p 6) (p 7) (p 8) (p 9) (p 10) (k0_pay64 (p 0)) (k0_pay65 (p 1)) (k0_pay66 (p 2)))
      (k0_pay70 (a 0) (a 1) (a 2) (p 3) (a 3) (p 4) (a 4) (p 5) (a 5) (p 6) (a 6) (p 7) (a 7) (p 8) (a 8) (p 9) (a 9) (p 10) (a 10)
        (k0_pay64 (p 0)) (k0_pay65 (p 1)) (k0_pay66 (p 2)))
      k0_pay71 (FloatOps.ofBits (F := Ideal) .f32 0#32))
    (k0_pay2 (F := Ideal) (k0_pay69 (p 3) (p 4) (p 5) (p 6) (p 7) (p 8) (p 9) (p 10) (k0_pay64 (p 0)) (k0_pay65 (p 1)) (k0_pay66 (p 2)))
      (FloatOps.ofBits (F := Ideal) .f32 0#32))

theorem idx : ∀ t : Fin cfg0.N, win0_0.index t = ![0, 0] ∧ win0_1.index t = ![0, 0] ∧ win0_2.index t = ![0, 0] ∧ win0_3.index t = ![0, 0]
    ∧ win0_4.index t = ![0, 0] :=
  (by decide +kernel : ∀ t : Fin grid0.N, _)

/-- The output array after the one grid point. -/
theorem final (c : Dev nD) : (dats m 0 c).arrAt 5 (cfgs 0).N
    = lossOf (pos (iblk m c 0 t0_0) (iblk m c 1 t0_0) (iblk m c 2 t0_0) (iblk m c 3 t0_0) (iblk m c 4 t0_0))
        (all (iblk m c 0 t0_0) (iblk m c 1 t0_0) (iblk m c 2 t0_0)) := by
  refine (dats m 0 c).arrAt_eq_of_after_last 5 t0_0 (by decide +kernel) _ fun j => ?_
  blk_simp
  rw [after0_5]
  unfold outsAt0
  frame_out
  rfl

end Cert.KernelIdeal.Value1

end
-- ==== Proof.Spec.lean ====
module

public import Idealize.ShloMosaic.Lib.Pointwise

@[expose] public section

noncomputable section

/-! The loss from its histograms: the arithmetic the kernel and the reference share. -/

namespace Cert.Spec

open Idealize.ShloMosaic
open scoped BigOperators

/-- Whether a bin counts: the product of its positives with the running positives, and the running total, are positive. -/
def counts (h c a : EReal) : BitVec 1 := IntOp.andi (BitVec.ofBool (decide (0 < h * c))) (BitVec.ofBool (decide (0 < a)))

/-- One bin's term of the average precision. -/
def cell (h c a : EReal) : EReal :=
  Scalar.select (counts h c a) (Ideal.div (h * c) (Scalar.select (counts h c a) a 1)) 0

/-- One anchor's average precision: its bins' terms over its number of positives `n`. -/
def precision (h c a : Fin 11 → EReal) (n : EReal) : EReal :=
  if 0 < n then Ideal.div (∑ k, cell (h k) (c k) (a k)) (if 0 < n then n else 1) else 0

/-- The loss: the mean of one minus the average precision over the anchors that have a positive. -/
def loss (h c a : Fin 2048 → Fin 11 → EReal) (n : Fin 2048 → EReal) : EReal :=
  Ideal.div (∑ i, if 0 < n i then 1 - precision (h i) (c i) (a i) (n i) else 0) (max (∑ i, if 0 < n i then 1 else 0) 1)

end Cert.Spec

end
-- ==== Proof.RealMath.lean ====
module

public import Idealize.ShloMosaic.Lib.Pointwise

@[expose] public section

noncomputable section

/-! Facts about real numbers behind the soft histogram: its running sum is a clipped line, and the inner
product of two unit vectors is at least minus one. -/

namespace Cert.RealMath

open scoped BigOperators

/-- A line clipped to `[0, 1]`. -/
def clip (x : ℝ) : ℝ := min 1 (max 0 x)

/-- The triangular pulse of width two around zero. -/
def tri (x : ℝ) : ℝ := max (1 - |x|) 0

theorem clip_of_one_le {x : ℝ} (h : 1 ≤ x) : clip x = 1 := by
  unfold clip
  rw [max_eq_right (by linarith), min_eq_left h]

/-- One more pulse moves the clipped line by one. -/
theorem clip_add_tri (u c : ℝ) : clip (1 + c - u) + tri (u - (c + 1)) = clip (1 + (c + 1) - u) := by
  unfold clip tri
  rcases le_total 0 (u - (c + 1)) with h | h
  · rw [abs_of_nonneg h]
    rw [max_eq_left (a := 0) (b := 1 + c - u) (by linarith)]
    rcases le_total (1 - (u - (c + 1))) 0 with h1 | h1
    · rw [max_eq_right h1, max_eq_left (by linarith)]
      simp
    · rw [max_eq_left h1, max_eq_right (by linarith), min_eq_right (by linarith), min_eq_right (by linarith)]
      ring
  · rw [abs_of_nonpos h, max_eq_right (a := 0) (b := 1 + (c + 1) - u) (by linarith), min_eq_left (a := 1) (b := 1 + (c + 1) - u) (by linarith)]
    rcases le_total 1 (1 + c - u) with h1 | h1
    · rw [max_eq_right (a := 0) (by linarith), min_eq_left h1, max_eq_right (by linarith)]
      ring
    · rw [max_eq_right (a := 0) (by linarith), min_eq_right h1, max_eq_left (by linarith)]
      ring

/-- The running sum of the pulses at `0, 1, …, k`, at a point that is not negative. -/
theorem sum_tri {u : ℝ} (hu : 0 ≤ u) (k : ℕ) : ∑ n ∈ Finset.range (k + 1), tri (u - n) = clip (1 + k - u) := by
  induction k with
  | zero =>
    rw [Finset.sum_range_one]
    unfold clip tri
    rw [Nat.cast_zero, sub_zero, abs_of_nonneg hu, add_zero, max_comm, min_eq_right]
    exact max_le (by norm_num) (by linarith)
  | succ k ih =>
    rw [Finset.sum_range_succ, ih, Nat.cast_succ]
    exact clip_add_tri u k

/-- The running sum of the pulses of width `2/5` around `2k/5`, at the distance `max (2 - 2g) 0`. -/
theorem sum_pulse (g : ℝ) (k : ℕ) :
    ∑ n ∈ Finset.range (k + 1), max (1 - |max (1 + 1 - 2 * g) 0 - 2 * n / 5| / (2 / 5)) 0 = clip (5 * g + (k - 4)) := by
  have hu : 0 ≤ max (1 + 1 - 2 * g) 0 / (2 / 5) := by positivity
  have e : ∀ n : ℕ, max (1 - |max (1 + 1 - 2 * g) 0 - 2 * n / 5| / (2 / 5)) 0 = tri (max (1 + 1 - 2 * g) 0 / (2 / 5) - n) := fun n => by
    unfold tri
    rw [show max (1 + 1 - 2 * g) 0 / (2 / 5) - (n : ℝ) = (max (1 + 1 - 2 * g) 0 - 2 * n / 5) / (2 / 5) by ring, abs_div,
      abs_of_pos (by norm_num : (0 : ℝ) < 2 / 5)]
  rw [Finset.sum_congr rfl fun n _ => e n, sum_tri hu]
  have hk : (0 : ℝ) ≤ k := Nat.cast_nonneg k
  rcases le_total (1 + 1 - 2 * g) 0 with h | h
  · rw [max_eq_right h, clip_of_one_le (by linarith), clip_of_one_le (by linarith)]
  · rw [max_eq_left h]
    congr 1
    ring

/-- Two vectors of square sum one have inner product at least minus one. -/
theorem neg_one_le_inner {n : ℕ} (x y : Fin n → ℝ) (hx : ∑ d, x d * x d = 1) (hy : ∑ d, y d * y d = 1) : -1 ≤ ∑ d, x d * y d := by
  have h : 0 ≤ ∑ d, (x d + y d) * (x d + y d) := Finset.sum_nonneg fun d _ => mul_self_nonneg _
  have e : ∑ d, (x d + y d) * (x d + y d) = ∑ d, x d * x d + 2 * ∑ d, x d * y d + ∑ d, y d * y d := by
    rw [Finset.mul_sum, ← Finset.sum_add_distrib, ← Finset.sum_add_distrib]
    exact Finset.sum_congr rfl fun d _ => by ring
  rw [e, hx, hy] at h
  linarith

/-- A vector divided by its norm has square sum one. -/
theorem sum_sq_div_norm {n : ℕ} (x : Fin n → ℝ) (h : 0 < √(∑ d, x d * x d)) :
    ∑ d, x d / √(∑ d, x d * x d) * (x d / √(∑ d, x d * x d)) = 1 := by
  have e : ∀ d, x d / √(∑ d, x d * x d) * (x d / √(∑ d, x d * x d)) = x d * x d / ∑ d, x d * x d := fun d => by
    rw [div_mul_div_comm, Real.mul_self_sqrt (Finset.sum_nonneg fun d _ => mul_self_nonneg _)]
  rw [Finset.sum_congr rfl fun d _ => e d, ← Finset.sum_div]
  exact div_self (Real.sqrt_pos.1 h).ne'

end Cert.RealMath

end
-- ==== Proof.Reals.lean ====
module

public import proofs.«01_k».proof.Proof.RealMath
public import Idealize.ShloMosaic.Lib.Pointwise

@[expose] public section

noncomputable section

/-! Extended-real operations on real arguments, and the loss's histograms as real sums. -/

namespace Cert.Reals

open Idealize.ShloMosaic Cert.RealMath
open scoped BigOperators

/-- A sum of reals is real. -/
theorem coe_sum {ι : Type} (s : Finset ι) (f : ι → ℝ) : ∑ i ∈ s, ((f i : ℝ) : EReal) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- A sum of reals times reals is real. -/
theorem coe_sum_mul {ι : Type} (s : Finset ι) (f g : ι → ℝ) :
    ∑ i ∈ s, ((f i : ℝ) : EReal) * ((g i : ℝ) : EReal) = ((∑ i ∈ s, f i * g i : ℝ) : EReal) := by
  rw [← coe_sum]
  exact Finset.sum_congr rfl fun i _ => (EReal.coe_mul _ _).symm

theorem coe_max (x y : ℝ) : max (x : EReal) (y : EReal) = ((max x y : ℝ) : EReal) := (EReal.coe_strictMono.monotone.map_max).symm

theorem coe_min (x y : ℝ) : min (x : EReal) (y : EReal) = ((min x y : ℝ) : EReal) := (EReal.coe_strictMono.monotone.map_min).symm

theorem coe_abs (x : ℝ) : (FloatOps.absf (F := Ideal) (φ := .f32) (x : EReal) : EReal) = ((|x| : ℝ) : EReal) := by
  show max (x : EReal) (-(x : EReal)) = _
  rw [← EReal.coe_neg, coe_max]
  rfl

theorem coe_div {y : ℝ} (h : y ≠ 0) (x : ℝ) : Ideal.div (x : EReal) (y : EReal) = ((x / y : ℝ) : EReal) := by
  rw [Ideal.div_coe h, ← EReal.coe_mul, mul_one_div]

/-- The one-bit word of a truth value, read as a number. -/
theorem uitofp_bool (b : Bool) : (FloatOps.uitofp (F := Ideal) .f32 (BitVec.ofBool b) : EReal) = ((if b then 1 else 0 : ℝ) : EReal) := by
  show (((BitVec.ofBool b).toNat : ℝ) : EReal) = _
  cases b <;> simp

/-- The same, widened to 32 bits first. -/
theorem sitofp_bool (b : Bool) : (FloatOps.sitofp (F := Ideal) .f32 (BitVec.setWidth 32 (BitVec.ofBool b)) : EReal) = ((if b then 1 else 0 : ℝ) : EReal) := by
  show (((BitVec.setWidth 32 (BitVec.ofBool b)).toInt : ℝ) : EReal) = _
  cases b <;> simp

theorem two_val : Ideal.ofBits .f32 0x40000000#32 = ((2 : ℝ) : EReal) := by
  simp [Ideal.ofBits, Ideal.ieee, -EReal.coe_mul]; norm_num
theorem four_val : Ideal.ofBits .f32 0x40800000#32 = ((4 : ℝ) : EReal) := by
  simp [Ideal.ofBits, Ideal.ieee, -EReal.coe_mul]; norm_num
theorem five_val : Ideal.ofBits .f32 0x40A00000#32 = ((5 : ℝ) : EReal) := by
  simp [Ideal.ofBits, Ideal.ieee, -EReal.coe_mul]; norm_num
theorem ten_val : Ideal.ofBits .f32 0x41200000#32 = ((10 : ℝ) : EReal) := by
  simp [Ideal.ofBits, Ideal.ieee, -EReal.coe_mul]; norm_num

/-- The clamp of the norms is a positive real. -/
theorem clamp_pos : ∃ c : ℝ, 0 < c ∧ Ideal.ofBits .f32 0x2B8CBCCC#32 = (c : EReal) := by
  refine ⟨_, ?_, by simp [Ideal.ofBits, Ideal.ieee, -EReal.coe_mul]; rfl⟩
  positivity

/-- The inner product of two rows. -/
def gram (x : Fin 2048 → Fin 128 → ℝ) (i j : Fin 2048) : ℝ := ∑ d, x i d * x j d

/-- One for a pair of different rows of the same label. -/
def pm (L : Fin 2048 → BitVec 32) (i j : Fin 2048) : ℝ := if L i = L j ∧ i ≠ j then 1 else 0

/-- One for a pair of different labels. -/
def nm (L : Fin 2048 → BitVec 32) (i j : Fin 2048) : ℝ := if L i = L j then 0 else 1

/-- The weight of a pair up to and including bin `k`. -/
def line (x : Fin 2048 → Fin 128 → ℝ) (k : ℕ) (i j : Fin 2048) : ℝ := clip (5 * gram x i j + (k - 4))

/-- The weight of a pair in bin `k`. -/
def bump (x : Fin 2048 → Fin 128 → ℝ) (k : ℕ) (i j : Fin 2048) : ℝ :=
  max (1 - |max (1 + 1 - 2 * gram x i j) 0 - 2 * k / 5| / (2 / 5)) 0

theorem sum_bump (x : Fin 2048 → Fin 128 → ℝ) (k : ℕ) (i j : Fin 2048) : ∑ n ∈ Finset.range (k + 1), bump x n i j = line x k i j :=
  sum_pulse (gram x i j) k

/-- The positives of row `i` in bin `k`. -/
def binPos (x : Fin 2048 → Fin 128 → ℝ) (L : Fin 2048 → BitVec 32) (i : Fin 2048) (k : ℕ) : ℝ := ∑ j, bump x k i j * pm L i j
/-- The negatives of row `i` in bin `k`. -/
def binNeg (x : Fin 2048 → Fin 128 → ℝ) (L : Fin 2048 → BitVec 32) (i : Fin 2048) (k : ℕ) : ℝ := ∑ j, bump x k i j * nm L i j
/-- The positives of row `i` up to and including bin `k`. -/
def cumPos (x : Fin 2048 → Fin 128 → ℝ) (L : Fin 2048 → BitVec 32) (i : Fin 2048) (k : ℕ) : ℝ := ∑ j, line x k i j * pm L i j
/-- All of row `i`'s pairs up to and including bin `k`. -/
def cumAll (x : Fin 2048 → Fin 128 → ℝ) (L : Fin 2048 → BitVec 32) (i : Fin 2048) (k : ℕ) : ℝ := ∑ j, line x k i j * (pm L i j + nm L i j)
/-- Row `i`'s number of positives. -/
def count (L : Fin 2048 → BitVec 32) (i : Fin 2048) : ℝ := ∑ j, pm L i j

theorem sum_binPos (x : Fin 2048 → Fin 128 → ℝ) (L : Fin 2048 → BitVec 32) (i : Fin 2048) (k : ℕ) :
    ∑ n ∈ Finset.range (k + 1), binPos x L i n = cumPos x L i k := by
  unfold binPos cumPos
  rw [Finset.sum_comm]
  exact Finset.sum_congr rfl fun j _ => by rw [← Finset.sum_mul, sum_bump]

theorem sum_binAll (x : Fin 2048 → Fin 128 → ℝ) (L : Fin 2048 → BitVec 32) (i : Fin 2048) (k : ℕ) :
    ∑ n ∈ Finset.range (k + 1), (binPos x L i n + binNeg x L i n) = cumAll x L i k := by
  unfold binPos binNeg cumAll
  rw [Finset.sum_congr rfl fun n _ => (Finset.sum_add_distrib).symm, Finset.sum_comm]
  exact Finset.sum_congr rfl fun j _ => by rw [← sum_bump, Finset.sum_mul]; exact Finset.sum_congr rfl fun n _ => (mul_add _ _ _).symm

/-! With rows of square sum one. -/

variable {x : Fin 2048 → Fin 128 → ℝ} (hx : ∀ i, ∑ d, x i d * x i d = 1) (L : Fin 2048 → BitVec 32)

include hx

theorem gram_self (i : Fin 2048) : gram x i i = 1 := hx i

/-- A row is at distance zero of itself, so its own pair has weight one in every running sum. -/
theorem line_self (k : ℕ) (i : Fin 2048) : line x k i i = 1 := by
  have hk : (0 : ℝ) ≤ k := Nat.cast_nonneg k
  unfold line
  rw [gram_self hx]
  exact clip_of_one_le (by linarith)

/-- The last running sum counts every pair once. -/
theorem line_last (i j : Fin 2048) : line x 10 i j = 1 := by
  have h := neg_one_le_inner (x i) (x j) (hx i) (hx j)
  unfold line gram
  exact clip_of_one_le (by push_cast; linarith)

/-- The running positives from the sum over the whole class. -/
theorem cumPos_eq (i : Fin 2048) (k : ℕ) : ∑ j, line x k i j * (if L i = L j then 1 else 0) - 1 = cumPos x L i k := by
  have e : ∀ j, line x k i j * (if L i = L j then 1 else 0) = line x k i j * pm L i j + if j = i then 1 else 0 := fun j => by
    unfold pm
    by_cases hj : j = i
    · subst hj
      simp [line_self hx]
    · have hj' : ¬ i = j := fun h => hj h.symm
      simp [hj, hj']
  rw [Finset.sum_congr rfl fun j _ => e j, Finset.sum_add_distrib, Finset.sum_ite_eq' Finset.univ i, if_pos (Finset.mem_univ i)]
  unfold cumPos
  ring

/-- The running total from the sum over every pair. -/
theorem cumAll_eq (i : Fin 2048) (k : ℕ) : ∑ j, line x k i j - 1 = cumAll x L i k := by
  have e : ∀ j, line x k i j = line x k i j * (pm L i j + nm L i j) + if j = i then 1 else 0 := fun j => by
    unfold pm nm
    by_cases hj : j = i
    · subst hj
      simp [line_self hx]
    · have hj' : ¬ i = j := fun h => hj h.symm
      by_cases hl : L i = L j <;> simp [hj, hj', hl]
  rw [Finset.sum_congr rfl fun j _ => e j, Finset.sum_add_distrib, Finset.sum_ite_eq' Finset.univ i, if_pos (Finset.mem_univ i)]
  unfold cumAll
  ring

/-- The last running positives are all positives. -/
theorem cumPos_last (i : Fin 2048) : cumPos x L i 10 = count L i := by
  unfold cumPos count
  exact Finset.sum_congr rfl fun j _ => by rw [line_last hx, one_mul]

end Cert.Reals

end
-- ==== Proof.KernelRead.lean ====
module

public import proofs.«01_k».proof.Proof.KernelValue
public import proofs.«01_k».proof.Proof.Spec
public import proofs.«01_k».proof.Proof.Reals

@[expose] public section

set_option maxRecDepth 16384

noncomputable section

/-! The kernel's output over real normalised rows and labels that name a class. -/

namespace Cert.KernelIdeal.Value1

open Idealize.ShloMosaic Idealize.ShloMosaic.TcCoe Idealize.ShloMosaic.Tactic Idealize.SL.Sem
open Cert.KernelIdeal Cert.KernelIdeal.Gen Cert.KernelIdeal.Columns Cert.Spec Cert.Reals
open scoped BigOperators

/-- Eleven columns side by side. -/
def hist (p : Fin 11 → FVec Ideal S2048 .f32) : FVec Ideal S2048x11 .f32 :=
  k0_pay67 (p 3) (p 4) (p 5) (p 6) (p 7) (p 8) (p 9) (p 10) (k0_pay64 (p 0)) (k0_pay65 (p 1)) (k0_pay66 (p 2))

theorem hist_apply (p : Fin 11 → FVec Ideal S2048 .f32) (i : Fin 2048) (k : Fin 11) : hist p (ix2 i k) = p k (ix1 i) := by
  fin_cases k <;> pointwise [hist, k0_pay67, k0_pay64, k0_pay65, k0_pay66]

/-- The bins' terms, from the positive and the all-pairs cumulative histograms. -/
def cells (P A : FVec Ideal S2048x11 .f32) : FVec Ideal S2048x11 .f32 :=
  let z : FVec Ideal S2048x11 .f32 := broadcast S2048x11 (Scalar.ofBits .f32 0x00000000#32)
  let q : FVec Ideal S2048x11 .f32 := mulf (subf P (concatenate S2048x11 1
    [⟨S2048x1, broadcast S2048x1 (Scalar.ofBits (F := Ideal) .f32 0x00000000#32)⟩,
      ⟨S2048x10, extractStridedSlice S2048x10 ![0, 0] P slices_S2048x11_o0_0_S2048x10⟩] concatenates_S2048x1_S2048x10_S2048x11_d1)) P
  let s : IVec S2048x11 1 := andi (cmpf .ogt q z) (cmpf .ogt A z)
  select s (divf q (select s A (broadcast S2048x11 (Scalar.ofBits .f32 0x3F800000#32)))) z

/-- Each anchor's number of positives: the last column. -/
def npos (P : FVec Ideal S2048x11 .f32) : FVec Ideal S2048 .f32 :=
  shapeCast S2048 (extractStridedSlice S2048x1 ![0, 10] P slices_S2048x11_o0_10_S2048x1) shapeCasts_S2048x1_S2048

/-- The loss from the bins' terms and the numbers of positives. -/
def tail (T : FVec Ideal S2048x11 .f32) (n : FVec Ideal S2048 .f32) : Vec Ideal S1x1 .f32 :=
  let z : FVec Ideal S2048 .f32 := broadcast S2048 (Scalar.ofBits .f32 0x00000000#32)
  let o : FVec Ideal S2048 .f32 := broadcast S2048 (Scalar.ofBits .f32 0x3F800000#32)
  let s : IVec S2048 1 := cmpf .ogt n z
  k0_pay3 (F := Ideal)
    (k0_pay1 (F := Ideal) s
      (subf o (select s (divf (multiReduction .add [1] S2048 T 0x00000000#32 reduces_S2048x11_S2048 (.inl rfl) rfl) (select s n o)) z))
      z (FloatOps.ofBits (F := Ideal) .f32 0#32))
    (k0_pay2 (F := Ideal) s (FloatOps.ofBits (F := Ideal) .f32 0#32))

theorem lossOf_eq (p a : Fin 11 → FVec Ideal S2048 .f32) : lossOf p a = tail (cells (hist p) (hist a)) (npos (hist p)) := rfl

/-- What a column adds to the one before it. -/
def step (P : Fin 11 → EReal) (k : Fin 11) : EReal := P k - if h : k.val < 1 then 0 else P ⟨k.val - 1, by omega⟩

theorem cells_apply (P A : FVec Ideal S2048x11 .f32) (i : Fin 2048) (k : Fin 11) :
    cells P A (ix2 i k) = cell (step (fun k => P (ix2 i k)) k) (P (ix2 i k)) (A (ix2 i k)) := by
  pointwise [cells, cell, counts, step]

theorem npos_apply (P : FVec Ideal S2048x11 .f32) (i : Fin 2048) : npos P (ix1 i) = P (ix2 i 10) := by
  pointwise [npos]

/-- The kernel's loss is the common one, at its columns. -/
theorem lossOf_apply (p a : Fin 11 → FVec Ideal S2048 .f32) : lossOf p a (ix2 0 0)
    = loss (fun i => step fun k => p k (ix1 i)) (fun i k => p k (ix1 i)) (fun i k => a k (ix1 i)) (fun i => p 10 (ix1 i)) := by
  have h : ∀ (T : FVec Ideal S2048x11 .f32) (n : FVec Ideal S2048 .f32), tail T n (ix2 0 0) = Ideal.div
      (∑ i : Fin 2048, if 0 < n (ix1 i) then
          1 - (if 0 < n (ix1 i) then Ideal.div (∑ k : Fin 11, T (ix2 i k)) (if 0 < n (ix1 i) then n (ix1 i) else 1) else 0)
        else 0)
      (max (∑ i : Fin 2048, FloatOps.sitofp (F := Ideal) .f32 (BitVec.setWidth 32 (BitVec.ofBool (decide (0 < n (ix1 i)))))) 1) := fun T n => by
    pointwise [tail, k0_pay3, k0_pay1, k0_pay2]
  have e : ∀ (n : FVec Ideal S2048 .f32) (i : Fin 2048),
      (FloatOps.sitofp (F := Ideal) .f32 (BitVec.setWidth 32 (BitVec.ofBool (decide (0 < n (ix1 i))))) : EReal) = if 0 < n (ix1 i) then 1 else 0 := fun n i => by
    rw [sitofp_bool]
    by_cases hn : 0 < n (ix1 i) <;> simp [hn]
  rw [lossOf_eq, h, Finset.sum_congr rfl fun i _ => e (npos (hist p)) i]
  simp only [cells_apply, npos_apply, hist_apply]
  rfl

/-- Clipping a real. -/
theorem clip_coe (a b : ℝ) : clip (a : EReal) (b : EReal) = ((RealMath.clip (a + b) : ℝ) : EReal) := by
  unfold clip RealMath.clip
  rw [← EReal.coe_add, ← EReal.coe_zero, ← EReal.coe_one, coe_max, coe_min]

variable (x : Fin 2048 → Fin 128 → ℝ) (E : Vec Ideal S2048x128 .f32)
  (hE : ∀ i d, Ideal.div (E (ix2 i d)) (max (Ideal.sqrt (∑ e, E (ix2 i e) * E (ix2 i e))) (Ideal.ofBits .f32 0x2B8CBCCC#32)) = ((x i d : ℝ) : EReal))
  (hx : ∀ i, ∑ d, x i d * x i d = 1)
  (L : Fin 2048 → BitVec 32) (hL : ∀ i, (L i).toNat < 64)
  (C : Vec Ideal S2048x1 .i32) (hC : ∀ i, C (ix2 i 0) = L i) (R : Vec Ideal S1x2048 .i32) (hR : ∀ i, R (ix2 0 i) = L i)

include hE in
theorem unit_apply (i : Fin 2048) (d : Fin 128) : k0_pay4 E (ix2 i d) = ((x i d : ℝ) : EReal) := by
  have h : k0_pay4 E (ix2 i d)
      = Ideal.div (E (ix2 i d)) (max (Ideal.sqrt (∑ e, E (ix2 i e) * E (ix2 i e))) (Ideal.ofBits .f32 0x2B8CBCCC#32)) := by
    pointwise [k0_pay4]
  rw [h, hE]

include hE in
/-- The kernel's scaled similarities. -/
theorem gram_apply (i j : Fin 2048) : k0_pay5 E E (ix2 i j) = ((5 * gram x i j : ℝ) : EReal) := by
  have h : k0_pay5 E E (ix2 i j) = ∑ d, Ideal.ofBits .f32 1084227584#32 * k0_pay4 E (ix2 i d)
      * Ideal.div (E (ix2 j d)) (max (Ideal.sqrt (∑ e, E (ix2 j e) * E (ix2 j e))) (Ideal.ofBits .f32 0x2B8CBCCC#32)) := by
    pointwise [k0_pay5]
  rw [h]
  simp only [unit_apply x E hE, hE, five_val, ← EReal.coe_mul]
  rw [coe_sum]
  unfold gram
  rw [Finset.mul_sum]
  simp only [mul_assoc]

include hE hx in
/-- The kernel's scaled similarity of a row to itself. -/
theorem diag_apply (i : Fin 2048) : k0_pay6 E (ix1 i) = ((5 : ℝ) : EReal) := by
  have h : k0_pay6 E (ix1 i) = Ideal.ofBits .f32 1084227584#32 * ∑ d, k0_pay4 E (ix2 i d) * k0_pay4 E (ix2 i d) := by
    pointwise [k0_pay6]
  rw [h]
  simp only [unit_apply x E hE]
  rw [coe_sum_mul, hx, five_val, ← EReal.coe_mul, mul_one]

theorem and_bool (p q : Prop) [Decidable p] [Decidable q] : BitVec.ofBool (decide p) &&& BitVec.ofBool (decide q) = BitVec.ofBool (decide (p ∧ q)) := by
  by_cases hp : p <;> by_cases hq : q <;> simp [hp, hq]

theorem or_bool (p q : Prop) [Decidable p] [Decidable q] : BitVec.ofBool (decide p) ||| BitVec.ofBool (decide q) = BitVec.ofBool (decide (p ∨ q)) := by
  by_cases hp : p <;> by_cases hq : q <;> simp [hp, hq]

/-- The class column's word test is the label's equality with the class. -/
theorem class_word (l : BitVec 32) (hl : l.toNat < 64) (d : Fin 128) :
    IntOp.andi (IntOp.cmpi .eq l (BitVec.ofNat 32 d.val)) (IntOp.cmpi .slt (BitVec.ofNat 32 d.val) 64#32) = BitVec.ofBool (decide (l.toNat = d.val)) := by
  have hd := d.isLt
  have e1 : (l = BitVec.ofNat 32 d.val) ↔ l.toNat = d.val := by
    rw [BitVec.toNat_inj.symm, BitVec.toNat_ofNat, Nat.mod_eq_of_lt (by omega)]
  have e2 : IntOp.cmpi .slt (BitVec.ofNat 32 d.val) 64#32 = BitVec.ofBool (decide (d.val < 64)) :=
    WordCmp.cmpi_slt_ofNat (by omega) (by omega)
  rw [e2]
  show BitVec.ofBool (l == BitVec.ofNat 32 d.val) &&& BitVec.ofBool (decide (d.val < 64)) = _
  rw [beq_eq_decide, and_bool]
  refine congrArg BitVec.ofBool (decide_eq_decide.2 ((and_congr_left fun _ => e1).trans ?_))
  omega

include hL hC in
/-- The class columns: one at the row's label, and one everywhere in column 64. -/
theorem onehot_apply (i : Fin 2048) (d : Fin 128) :
    k0_pay7 (F := Ideal) C (ix2 i d) = ((if (L i).toNat = d.val ∨ d.val = 64 then 1 else 0 : ℝ) : EReal) := by
  have h : k0_pay7 (F := Ideal) C (ix2 i d) = FloatOps.sitofp (F := Ideal) .f32 (BitVec.setWidth 32
      (IntOp.ori (IntOp.andi (IntOp.cmpi .eq (C (ix2 i 0)) (BitVec.ofNat 32 d.val)) (IntOp.cmpi .slt (BitVec.ofNat 32 d.val) 64#32))
        (IntOp.cmpi .eq (BitVec.ofNat 32 d.val) 64#32))) := by
    pointwise [k0_pay7]
  have hd := d.isLt
  have e : (BitVec.ofNat 32 d.val = 64#32) ↔ d.val = 64 := by
    rw [BitVec.toNat_inj.symm, BitVec.toNat_ofNat, BitVec.toNat_ofNat]
    omega
  have hw : IntOp.ori (BitVec.ofBool (decide ((L i).toNat = d.val))) (IntOp.cmpi .eq (BitVec.ofNat 32 d.val) 64#32)
      = BitVec.ofBool (decide ((L i).toNat = d.val ∨ d.val = 64)) := by
    show BitVec.ofBool (decide ((L i).toNat = d.val)) ||| BitVec.ofBool (BitVec.ofNat 32 d.val == 64#32) = _
    rw [beq_eq_decide, or_bool]
    exact congrArg BitVec.ofBool (decide_eq_decide.2 (or_congr_right e))
  rw [h, hC, class_word (L i) (hL i) d, hw, sitofp_bool]
  simp

include hL hC in
/-- The row's own class. -/
theorem class_apply (i : Fin 2048) (d : Fin 128) :
    k0_pay9 (F := Ideal) (iota Kind.tc S2048x128 32 [1] iota_S2048x128_d1_w32) C (ix2 i d) = ((if (L i).toNat = d.val then 1 else 0 : ℝ) : EReal) := by
  have h : k0_pay9 (F := Ideal) (iota Kind.tc S2048x128 32 [1] iota_S2048x128_d1_w32) C (ix2 i d) = FloatOps.sitofp (F := Ideal) .f32 (BitVec.setWidth 32
      (IntOp.andi (IntOp.cmpi .eq (C (ix2 i 0)) (BitVec.ofNat 32 d.val)) (IntOp.cmpi .slt (BitVec.ofNat 32 d.val) 64#32))) := by
    pointwise [k0_pay9, k0_pay8]
  rw [h, hC, class_word (L i) (hL i) d, sitofp_bool]
  simp

include hC hR in
/-- Whether two rows have the same label. -/
theorem same_apply (i j : Fin 2048) : k0_pay10 (F := Ideal) C R (ix2 i j) = ((if L i = L j then 1 else 0 : ℝ) : EReal) := by
  have h : k0_pay10 (F := Ideal) C R (ix2 i j) = FloatOps.sitofp (F := Ideal) .f32 (BitVec.setWidth 32 (IntOp.cmpi .eq (C (ix2 i 0)) (R (ix2 0 j)))) := by
    pointwise [k0_pay10, k0_pay8]
  rw [h, hC, hR]
  show FloatOps.sitofp (F := Ideal) .f32 (BitVec.setWidth 32 (BitVec.ofBool (L i == L j))) = _
  rw [beq_eq_decide, sitofp_bool]
  simp

include hE in
/-- A clipped similarity is the pair's running weight. -/
theorem line_apply (i j : Fin 2048) (k : Fin 11) : clip (k0_pay5 E E (ix2 i j)) (Ideal.ofBits .bf16 (wordB k)) = ((line x k.val i j : ℝ) : EReal) := by
  rw [gram_apply x E hE, wordB_val, clip_coe]
  rfl

include hE hx in
theorem diagLine_apply (i : Fin 2048) (k : Fin 11) : clip (k0_pay6 E (ix1 i)) (Ideal.ofBits .f32 (wordF k)) = ((1 : ℝ) : EReal) := by
  rw [diag_apply x E hE hx, wordF_val, clip_coe, RealMath.clip_of_one_le]
  have : (0 : ℝ) ≤ k.val := Nat.cast_nonneg _
  linarith

include hL in
/-- Adding a class's column and reading it at the row's own class adds the pairs of that class. -/
theorem sum_classes (w : Fin 2048 → ℝ) (i : Fin 2048) :
    ∑ d : Fin 128, (∑ j, w j * (if (L j).toNat = d.val ∨ d.val = 64 then 1 else 0)) * (if (L i).toNat = d.val then 1 else 0)
      = ∑ j, w j * (if L i = L j then 1 else 0) := by
  have hi := hL i
  rw [Finset.sum_eq_single (⟨(L i).toNat, by omega⟩ : Fin 128) (fun d _ hd => by
    rw [if_neg (fun h => hd (Fin.ext h.symm)), mul_zero]) (fun h => absurd (Finset.mem_univ _) h), if_pos rfl, mul_one]
  refine Finset.sum_congr rfl fun j _ => congrArg (fun t : ℝ => w j * t) (if_congr ?_ rfl rfl)
  rw [BitVec.toNat_inj.symm]
  show (L j).toNat = (L i).toNat ∨ (L i).toNat = 64 ↔ _
  omega

include hE hx hL hC hR in
/-- The kernel's positive columns. -/
theorem pos_apply (i : Fin 2048) (k : Fin 11) : pos E E C C R k (ix1 i) = ((cumPos x L i k.val : ℝ) : EReal) := by
  unfold pos
  rw [posCol_apply, diagLine_apply x E hE hx, ← cumPos_eq hx, EReal.coe_sub]
  congr 1
  split
  · simp only [line_apply x E hE, onehot_apply L hL C hC, class_apply L hL C hC, coe_sum_mul]
    rw [sum_classes L hL]
  · simp only [line_apply x E hE, same_apply L C hC R hR, coe_sum_mul]

include hE hx hL hC in
/-- The kernel's all-pairs columns. -/
theorem all_apply (i : Fin 2048) (k : Fin 11) : all E E C k (ix1 i) = ((cumAll x L i k.val : ℝ) : EReal) := by
  unfold all
  rw [allCol_apply, diagLine_apply x E hE hx, ← cumAll_eq hx L, EReal.coe_sub]
  congr 1
  split
  · simp only [line_apply x E hE, onehot_apply L hL C hC, coe_sum_mul]
    simp
  · simp only [line_apply x E hE, coe_sum]

/-- One column less the one before is that bin's own sum. -/
theorem step_apply (i : Fin 2048) (k : Fin 11) : step (fun k => ((cumPos x L i k.val : ℝ) : EReal)) k = ((binPos x L i k.val : ℝ) : EReal) := by
  unfold step
  obtain ⟨k, hk⟩ := k
  cases k with
  | zero =>
    rw [dif_pos (by simp), sub_zero]
    show ((cumPos x L i 0 : ℝ) : EReal) = _
    rw [← sum_binPos, Finset.sum_range_one]
  | succ k =>
    rw [dif_neg (by simp), ← EReal.coe_sub]
    show ((cumPos x L i (k + 1) - cumPos x L i k : ℝ) : EReal) = _
    rw [← sum_binPos, ← sum_binPos, Finset.sum_range_succ _ (k + 1), add_sub_cancel_left]

include hE hx hL hC hR in
/-- The kernel's output, where its normalised rows are real and of square sum one. -/
theorem output_apply : lossOf (pos E E C C R) (all E E C) (ix2 0 0)
    = loss (fun i k => ((binPos x L i k.val : ℝ) : EReal)) (fun i k => ((cumPos x L i k.val : ℝ) : EReal))
        (fun i k => ((cumAll x L i k.val : ℝ) : EReal)) (fun i => ((count L i : ℝ) : EReal)) := by
  rw [lossOf_apply]
  simp only [pos_apply x E hE hx L hL C hC R hR, all_apply x E hE hx L hL C hC]
  have h : ∀ i, cumPos x L i (10 : Fin 11).val = count L i := cumPos_last hx L
  simp only [h]
  congr 1
  funext i k
  exact step_apply x L i k

end Cert.KernelIdeal.Value1

end
-- ==== Proof.KernelOut.lean ====
module

public import proofs.«01_k».proof.Proof.KernelRead

@[expose] public section

set_option maxRecDepth 16384

noncomputable section

/-! The kernel's output array from its two argument arrays. -/

namespace Cert.KernelIdeal.Value1

open Idealize.ShloMosaic Idealize.ShloMosaic.TcCoe Idealize.ShloMosaic.Tactic Idealize.SL.Sem
open Cert.KernelIdeal Cert.KernelIdeal.Gen Cert.KernelIdeal.Columns Cert.Spec Cert.Reals
open scoped BigOperators

variable (m : (ℓ : Loc nD τ sig) → Buf (Elt Ideal) ℓ) (c : Dev nD)

/-- The label column is the labels, reshaped. -/
theorem entry_col (i : Fin 2048) : V m c main_v0 (ix2 i 0) = m ((c.tc : Thread nD τ).loc main_arg1) (ix1 i) := by
  have h : V m c main_v0 = shapeCast S2048x1 (m ((c.tc : Thread nD τ).loc main_arg1) : IVec S2048 32) shapeCasts_S2048_S2048x1 := by
    show StableHlo.after (hostOps0 (F := Ideal)) (fun b => m (c, b)) (Proc.devRef .tc main_v0) = _
    after_results
    rfl
  rw [h]
  pointwise

/-- The label row is the labels, reshaped. -/
theorem entry_row (i : Fin 2048) : V m c main_v1 (ix2 0 i) = m ((c.tc : Thread nD τ).loc main_arg1) (ix1 i) := by
  have h : V m c main_v1 = shapeCast S1x2048 (m ((c.tc : Thread nD τ).loc main_arg1) : IVec S2048 32) shapeCasts_S2048_S1x2048 := by
    show StableHlo.after (hostOps0 (F := Ideal)) (fun b => m (c, b)) (Proc.devRef .tc main_v1) = _
    after_results
    rfl
  rw [h]
  pointwise

/-- The full embedding block is the embeddings. -/
theorem blk0 (i : Fin 2048) (d : Fin 128) : iblk m c 0 t0_0 (ix2 i d) = m ((c.tc : Thread nD τ).loc main_arg0) (ix2 i d) := by
  blk_point [iblk, V, (idx t0_0).1]

/-- The tile's embedding block is the embeddings. -/
theorem blk1 (i : Fin 2048) (d : Fin 128) : iblk m c 1 t0_0 (ix2 i d) = m ((c.tc : Thread nD τ).loc main_arg0) (ix2 i d) := by
  blk_point [iblk, V, (idx t0_0).2.1]

/-- The full label column is the labels. -/
theorem blk2 (i : Fin 2048) : iblk m c 2 t0_0 (ix2 i 0) = m ((c.tc : Thread nD τ).loc main_arg1) (ix1 i) := by
  refine Eq.trans (b := V m c main_v0 (ix2 i 0)) ?_ (entry_col m c i)
  blk_point [iblk, V, (idx t0_0).2.2.1]

/-- The tile's label column is the labels. -/
theorem blk3 (i : Fin 2048) : iblk m c 3 t0_0 (ix2 i 0) = m ((c.tc : Thread nD τ).loc main_arg1) (ix1 i) := by
  refine Eq.trans (b := V m c main_v0 (ix2 i 0)) ?_ (entry_col m c i)
  blk_point [iblk, V, (idx t0_0).2.2.2.1]

/-- The label row is the labels. -/
theorem blk4 (i : Fin 2048) : iblk m c 4 t0_0 (ix2 0 i) = m ((c.tc : Thread nD τ).loc main_arg1) (ix1 i) := by
  refine Eq.trans (b := V m c main_v1 (ix2 0 i)) ?_ (entry_row m c i)
  blk_point [iblk, V, (idx t0_0).2.2.2.2]

/-- Two arrays of rank two are equal if they agree at every row and column. -/
theorem ext_ix2 {n0 n1 : ℕ} {α : Type} {A B : (⟨2, ![n0, n1]⟩ : Shape).Idx → α} (h : ∀ i j, A (ix2 i j) = B (ix2 i j)) : A = B :=
  funext fun y => by rw [ValueIdx.eq_ix2 y]; exact h _ _

/-- The output array's one entry is the loss, where the normalised rows are real and of square sum one and the labels name classes. -/
theorem out_apply (x : Fin 2048 → Fin 128 → ℝ) (hx : ∀ i, ∑ d, x i d * x i d = 1)
    (E : FVec Ideal S2048x128 .f32) (hm : E = m ((c.tc : Thread nD τ).loc main_arg0))
    (hE : ∀ i d, Ideal.div (E (ix2 i d)) (max (Ideal.sqrt (∑ e, E (ix2 i e) * E (ix2 i e))) (Ideal.ofBits .f32 0x2B8CBCCC#32)) = ((x i d : ℝ) : EReal))
    (L : Fin 2048 → BitVec 32) (hl : ∀ i, L i = m ((c.tc : Thread nD τ).loc main_arg1) (ix1 i)) (hL : ∀ i, (L i).toNat < 64) :
    (dats m 0 c).arrAt 5 (cfgs 0).N (ix2 0 0)
      = loss (fun i k => ((binPos x L i k.val : ℝ) : EReal)) (fun i k => ((cumPos x L i k.val : ℝ) : EReal))
        (fun i k => ((cumAll x L i k.val : ℝ) : EReal)) (fun i => ((count L i : ℝ) : EReal)) := by
  have h0 : iblk m c 0 t0_0 = E := ext_ix2 fun i d => (blk0 m c i d).trans (congrFun hm.symm _)
  have h1 : iblk m c 1 t0_0 = E := ext_ix2 fun i d => (blk1 m c i d).trans (congrFun hm.symm _)
  have h2 : ∀ i, iblk m c 2 t0_0 (ix2 i 0) = L i := fun i => (blk2 m c i).trans (hl i).symm
  have h3 : iblk m c 3 t0_0 = iblk m c 2 t0_0 := ext_ix2 fun i k => by
    rw [Subsingleton.elim k 0]
    exact (blk3 m c i).trans (blk2 m c i).symm
  rw [final, h0, h1, h3]
  exact output_apply x E hE hx L hL _ h2 _ fun i => (blk4 m c i).trans (hl i).symm

/-- The host's reshape after the launch reads the output array. -/
theorem tail_eq : Pipeline.afterTail₀ cfgs (dats m) 0 (V0 m) [hostOps1] c main_v3
    = shapeCast S_ ((dats m 0 c).arrAt 5 (cfgs 0).N : FVec Ideal S1x1 .f32) shapeCasts_S1x1_S_ := by
  show StableHlo.after (hostOps1 (F := Ideal)) (Pipeline.withArrays (cfgs 0).spec c (V0 m c) fun w => (dats m 0 c).arrAt w (cfgs 0).N) (Proc.devRef .tc main_v3) = _
  after_results
  have h : Pipeline.withArrays (cfgs 0).spec c (V0 m c) (fun w => (dats m 0 c).arrAt w (cfgs 0).N) (Proc.devRef .tc main_v2)
      = (dats m 0 c).arrAt 5 (cfgs 0).N :=
    Pipeline.withArrays_arr_shared spec0 c (V0 m c) _ (Pipeline.Dat.arrAt_sharedIn (dats m 0 c) sharedIn0 (V0 m c) (A_eq m c) (cfgs 0).N) 5
  rw [h]
  rfl

/-- The kernel's run: its result is the output array, reshaped, and its arguments are unchanged. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v3) = shapeCast S_ ((dats m 0 c).arrAt 5 (cfgs 0).N : FVec Ideal S1x1 .f32) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).2 main_v3 (by decide)).trans (tail_eq m c), h.2 c⟩)
    (θ_run_and (run_main m ρ) (unchanged m ρ))

end Cert.KernelIdeal.Value1

end
-- ==== Proof.RefValue.lean ====
module

public import proofs.«01_k».proof.Proof.Gen.ReferenceIdeal.Run
public import proofs.«01_k».proof.Proof.Spec
public import Idealize.ShloMosaic.Lib.Pointwise
public import Idealize.ShloMosaic.Lib.Claim

@[expose] public section

set_option maxRecDepth 16384

noncomputable section

/-! The reference's result, taken apart into stages and each stage read at an index. -/

namespace Cert.ReferenceIdeal.Stages

open Idealize.ShloMosaic Idealize.ShloMosaic.TcCoe Idealize.ShloMosaic.Tactic Idealize.SL.Sem
open Cert.ReferenceIdeal Cert.ReferenceIdeal.Gen Cert.ReferenceIdeal.Value Cert.Spec
open scoped BigOperators

/-- A scalar constant. -/
abbrev k0 (b : BitVec 32) : FVec Ideal S_ .f32 := constant S_ .f32 b

/-- The rows divided by their clamped norms. -/
def emb (E : FVec Ideal S2048x128 .f32) : FVec Ideal S2048x128 .f32 :=
  Host.divf E (broadcastInDim S2048x128 ![0, 1] bcast_S2048x1_S2048x128_0_1
    (maximumf (Host.sqrt (broadcastInDim S2048x1 ![0] bcast_S2048_S2048x1_0
        (Host.reduceAdd (mulf E E) (k0 0x00000000#32) reducesTo_S2048x128_S2048_d1 h_S_)))
      (broadcastInDim S2048x1 ![] bcast_S_S2048x1 (k0 0x2B8CBCCC#32))))

/-- Whether two rows have the same label. -/
def same (L : IVec S2048 32) : IVec S2048x2048 1 :=
  cmpi .eq (broadcastInDim S2048x2048 ![0, 1] bcast_S2048x1_S2048x2048_0_1 (broadcastInDim S2048x1 ![0] bcast_S2048_S2048x1_0 L))
    (broadcastInDim S2048x2048 ![0, 1] bcast_S1x2048_S2048x2048_0_1 (broadcastInDim S1x2048 ![1] bcast_S2048_S1x2048_1 L))

/-- The positive pairs: the same label, not the same row. -/
def ipos (L : IVec S2048 32) : FVec Ideal S2048x2048 .f32 :=
  uitofp .f32 (andi (same L) (noti (cmpi .eq (addi (iotaInDim S2048x2048 32 0)
    (broadcastInDim S2048x2048 ![] bcast_S_S2048x2048 (constantI S_ 32 0#32))) (iotaInDim S2048x2048 32 1))))

/-- The negative pairs. -/
def ineg (L : IVec S2048 32) : FVec Ideal S2048x2048 .f32 := uitofp .f32 (noti (same L))

/-- Each row's number of positives. -/
def npos (L : IVec S2048 32) : FVec Ideal S2048 .f32 :=
  Host.reduceAdd (ipos L) (k0 0x00000000#32) reducesTo_S2048x2048_S2048_d1 h_S_

/-- The squared distances. -/
def dist (X : FVec Ideal S2048x128 .f32) : FVec Ideal S2048x2048 .f32 :=
  let sq : FVec Ideal S2048 .f32 := Host.reduceAdd (mulf X X) (k0 0x00000000#32) reducesTo_S2048x128_S2048_d1 h_S_
  maximumf (subf
      (addf (broadcastInDim S2048x2048 ![0, 1] bcast_S2048x1_S2048x2048_0_1 (broadcastInDim S2048x1 ![0] bcast_S2048_S2048x1_0 sq))
        (broadcastInDim S2048x2048 ![0, 1] bcast_S1x2048_S2048x2048_0_1 (broadcastInDim S1x2048 ![1] bcast_S2048_S1x2048_1 sq)))
      (mulf (broadcastInDim S2048x2048 ![] bcast_S_S2048x2048 (k0 0x40000000#32))
        (Host.dotGeneral dot_S2048x128_S128x2048_S2048x2048_1_0_0_1_n_n none X (transpose S128x2048 [1, 0] X transposes_S2048x128_S128x2048_1_0))))
    (broadcastInDim S2048x2048 ![] bcast_S_S2048x2048 (k0 0x00000000#32))

/-- The bins' middles. -/
def mids : FVec Ideal S11 .f32 :=
  let q : FVec Ideal S10 .f32 := Host.divf (sitofp .f32 (iotaInDim S10 32 0)) (broadcastInDim S10 ![] bcast_S_S10 (k0 0x41200000#32))
  fn_main_v36 (F := Ideal)
    (addf
      (mulf (broadcastInDim S10 ![0] bcast_S1_S10_0 (shapeCast S1 (k0 0x00000000#32) shapeCasts_S_S1))
        (subf (broadcastInDim S10 ![] bcast_S_S10 (k0 0x3F800000#32)) q))
      (mulf (broadcastInDim S10 ![0] bcast_S1_S10_0 (shapeCast S1 (k0 0x40800000#32) shapeCasts_S_S1)) q))
    (broadcastInDim S1 ![] bcast_S_S1 (k0 0x40800000#32))

/-- Each bin's weight of each pair. -/
def pulse (d : FVec Ideal S2048x2048 .f32) (c : FVec Ideal S11 .f32) : FVec Ideal S11x2048x2048 .f32 :=
  maximumf (subf (broadcastInDim S11x2048x2048 ![] bcast_S_S11x2048x2048 (k0 0x3F800000#32))
      (Host.divf (Host.absf (subf
          (broadcastInDim S11x2048x2048 ![0, 1, 2] bcast_S1x2048x2048_S11x2048x2048_0_1_2
            (broadcastInDim S1x2048x2048 ![1, 2] bcast_S2048x2048_S1x2048x2048_1_2 d))
          (broadcastInDim S11x2048x2048 ![0, 1, 2] bcast_S11x1x1_S11x2048x2048_0_1_2 (shapeCast S11x1x1 c shapeCasts_S11_S11x1x1))))
        (broadcastInDim S11x2048x2048 ![] bcast_S_S11x2048x2048 (Host.divf (k0 0x40800000#32) (k0 0x41200000#32)))))
    (broadcastInDim S11x2048x2048 ![] bcast_S_S11x2048x2048 (k0 0x00000000#32))

/-- The histogram of the pairs a mask selects. -/
def hist (w : FVec Ideal S11x2048x2048 .f32) (mask : FVec Ideal S2048x2048 .f32) : FVec Ideal S2048x11 .f32 :=
  transpose S2048x11 [1, 0] (Host.reduceAdd (mulf w
      (broadcastInDim S11x2048x2048 ![0, 1, 2] bcast_S1x2048x2048_S11x2048x2048_0_1_2
        (broadcastInDim S1x2048x2048 ![1, 2] bcast_S2048x2048_S1x2048x2048_1_2 mask)))
    (k0 0x00000000#32) reducesTo_S11x2048x2048_S11x2048_d2 h_S_) transposes_S11x2048_S2048x11_1_0

/-- The running sums over the bins. -/
def cum (H : FVec Ideal S2048x11 .f32) : FVec Ideal S2048x11 .f32 :=
  Host.reduceWindowAdd ![1, 11] ![1, 1] ![0, 10] ![0, 0] H (broadcastInDim S_ ![] bcast_S_S_ (k0 0x00000000#32))
    reduceWindows_S2048x11_S2048x11_w1s1p0_0_w11s1p10_0 h_S_

/-- The bins' terms. -/
def cells (H C A : FVec Ideal S2048x11 .f32) : FVec Ideal S2048x11 .f32 :=
  let z : FVec Ideal S2048x11 .f32 := broadcastInDim S2048x11 ![] bcast_S_S2048x11 (k0 0x00000000#32)
  let s : IVec S2048x11 1 := andi (cmpf .ogt (mulf H C) z) (cmpf .ogt A z)
  select s (Host.divf (mulf H C) (select s A (broadcastInDim S2048x11 ![] bcast_S_S2048x11 (k0 0x3F800000#32)))) z

/-- The loss from the bins' terms and the numbers of positives. -/
def tail (T : FVec Ideal S2048x11 .f32) (n : FVec Ideal S2048 .f32) : FVec Ideal S_ .f32 :=
  let z : FVec Ideal S2048 .f32 := broadcastInDim S2048 ![] bcast_S_S2048 (k0 0x00000000#32)
  let o : FVec Ideal S2048 .f32 := broadcastInDim S2048 ![] bcast_S_S2048 (k0 0x3F800000#32)
  let s : IVec S2048 1 := cmpf .ogt n z
  let f : FVec Ideal S2048 .f32 := select s (Host.divf (Host.reduceAdd T (k0 0x00000000#32) reducesTo_S2048x11_S2048_d1 h_S_) (select s n o)) z
  Host.divf (Host.reduceAdd (select s (mulf (subf o f) o) z) (k0 0x00000000#32) reducesTo_S2048_S_d0 h_S_)
    (maximumf (Host.reduceAdd (uitofp .f32 s : FVec Ideal S2048 .f32) (k0 0x00000000#32) reducesTo_S2048_S_d0 h_S_) (k0 0x3F800000#32))

/-- The reference's result from its two arguments. -/
def result (E : FVec Ideal S2048x128 .f32) (L : IVec S2048 32) : FVec Ideal S_ .f32 :=
  let w := pulse (dist (emb E)) mids
  tail (cells (hist w (ipos L)) (cum (hist w (ipos L))) (cum (addf (hist w (ipos L)) (hist w (ineg L))))) (npos L)

variable (m : (ℓ : Loc nD τ sig) → Buf (Elt Ideal) ℓ)

/-- The reference's run ends at its stages' composition. -/
theorem res_eq (c : Dev nD) : res_out0 m c = result (m ((c.tc : Thread nD τ).loc main_arg0)) (m ((c.tc : Thread nD τ).loc main_arg1)) := by
  unfold res_out0 res_main_v85
  rfl

end Cert.ReferenceIdeal.Stages

end
-- ==== Proof.RefRead.lean ====
module

public import proofs.«01_k».proof.Proof.RefValue
public import proofs.«01_k».proof.Proof.Reals
public import Idealize.ShloMosaic.Lib.Routing.OpsPair

@[expose] public section

set_option maxRecDepth 16384

noncomputable section

/-! The reference's stages at an index, over real normalised rows. -/

namespace Cert.ReferenceIdeal.Stages

open Idealize.ShloMosaic Idealize.ShloMosaic.TcCoe Idealize.ShloMosaic.Tactic Idealize.SL.Sem
open Cert.ReferenceIdeal Cert.ReferenceIdeal.Gen Cert.ReferenceIdeal.Value Cert.Spec Cert.Reals
open scoped BigOperators

/-- Adding up a list from a start is the start plus the list's sum. -/
theorem foldl_add {ι : Type} (f : ι → EReal) (l : List ι) (v : EReal) : l.foldl (fun r n => r + f n) v = v + (l.map f).sum := by
  induction l generalizing v with
  | nil => simp
  | cons a l ih => rw [List.foldl_cons, ih, List.map_cons, List.sum_cons, add_assoc]

/-- The running sum at bin `k` is the sum of the bins up to and including `k`. -/
theorem cum_apply (H : FVec Ideal S2048x11 .f32) (i : Fin 2048) (k : Fin 11) (f : ℕ → EReal) (hf : ∀ n : Fin 11, H (ix2 i n) = f n.val) :
    cum H (ix2 i k) = ∑ n ∈ Finset.range (k.val + 1), f n := by
  have hz : (broadcastInDim S_ ![] bcast_S_S_ (k0 0x00000000#32) : FVec Ideal S_ .f32) (Shape.Idx.first h_S_) = 0 := by
    show Ideal.ofBits .f32 0x00000000#32 = 0
    exact Ideal.ofBits_zero_f32
  have key : cum H (ix2 i k) = 0 + ∑ b : Fin 11, (if 10 ≤ k.val + b.val then f (k.val + b.val - 10) else 0) := by
    unfold cum
    show Host.reduceWindow (· + ·) ![1, 11] ![1, 1] ![0, 10] ![0, 0] H
      (fun _ : (⟨0, ![]⟩ : Shape).Idx => (broadcastInDim S_ ![] bcast_S_S_ (k0 0x00000000#32) : FVec Ideal S_ .f32) (Shape.Idx.first h_S_))
      reduceWindows_S2048x11_S2048x11_w1s1p0_0_w11s1p10_0 (Nat.lt_of_sub_eq_succ rfl) (ix2 i k) = _
    rw [hz]
    unfold Host.reduceWindow
    refine (foldl_add _ _ _).trans (congrArg (fun t : EReal => 0 + t) ?_)
    refine (Fin.sum_univ_def _).symm.trans ?_
    refine Eq.trans (Finset.sum_congr rfl fun n _ => ?_) ((Equiv.sum_comp (Shape.rowMajor ⟨2, ![1, 11]⟩).symm (fun w : (⟨2, ![1, 11]⟩ : Shape).Idx =>
      if 10 ≤ k.val + (w 1).val then f (k.val + (w 1).val - 10) else 0)).trans ?_)
    · have key : ∀ w : (⟨2, ![1, 11]⟩ : Shape).Idx, (w 0).val = 0 ∧ (w 1).val < 11 := fun w => ⟨Nat.lt_one_iff.1 (w 0).isLt, (w 1).isLt⟩
      obtain ⟨h0, h1⟩ := key ((Shape.rowMajor ⟨2, ![1, 11]⟩).symm n)
      have hk := k.isLt
      have hi := i.isLt
      split
      · next hin =>
        have h2 : 10 ≤ k.val * 1 + ((Shape.rowMajor ⟨2, ![1, 11]⟩).symm n 1).val := (hin 1).1
        rw [if_pos (by omega)]
        refine Eq.trans (congrArg H (funext fun a => Fin.ext ?_)) (hf ⟨k.val + ((Shape.rowMajor ⟨2, ![1, 11]⟩).symm n 1).val - 10, by omega⟩)
        match a with
        | ⟨0, _⟩ =>
          show i.val * 1 + ((Shape.rowMajor ⟨2, ![1, 11]⟩).symm n 0).val - 0 = i.val
          omega
        | ⟨1, _⟩ =>
          show k.val * 1 + ((Shape.rowMajor ⟨2, ![1, 11]⟩).symm n 1).val - 10 = k.val + ((Shape.rowMajor ⟨2, ![1, 11]⟩).symm n 1).val - 10
          omega
      · next hin =>
        rw [if_neg]
        intro hle
        refine hin fun a => ?_
        match a with
        | ⟨0, _⟩ =>
          show 0 ≤ i.val * 1 + ((Shape.rowMajor ⟨2, ![1, 11]⟩).symm n 0).val ∧ i.val * 1 + ((Shape.rowMajor ⟨2, ![1, 11]⟩).symm n 0).val - 0 < 2048
          omega
        | ⟨1, _⟩ =>
          show 10 ≤ k.val * 1 + ((Shape.rowMajor ⟨2, ![1, 11]⟩).symm n 1).val
            ∧ k.val * 1 + ((Shape.rowMajor ⟨2, ![1, 11]⟩).symm n 1).val - 10 < 11
          omega
    · rw [sum_idx2, Fin.sum_univ_one]
      rfl
  rw [key, zero_add]
  fin_cases k <;> simp [Fin.sum_univ_succ, Finset.sum_range_succ, add_assoc]

theorem emb_apply (E : FVec Ideal S2048x128 .f32) (i : Fin 2048) (d : Fin 128) : emb E (ix2 i d)
    = Ideal.div (E (ix2 i d)) (max (Ideal.sqrt (∑ e, E (ix2 i e) * E (ix2 i e))) (Ideal.ofBits .f32 0x2B8CBCCC#32)) := by
  pointwise [emb]

theorem not_bool (p : Prop) [Decidable p] : ~~~BitVec.ofBool (decide p) = BitVec.ofBool (decide ¬p) := by
  by_cases hp : p <;> simp [hp]

theorem and_not_bool (p q : Prop) [Decidable p] [Decidable q] :
    BitVec.ofBool (decide p) &&& ~~~BitVec.ofBool (decide q) = BitVec.ofBool (decide (p ∧ ¬q)) := by
  by_cases hp : p <;> by_cases hq : q <;> simp [hp, hq]

theorem ipos_apply (L : IVec S2048 32) (i j : Fin 2048) : ipos L (ix2 i j) = ((pm (fun r => L (ix1 r)) i j : ℝ) : EReal) := by
  have h : ipos L (ix2 i j) = FloatOps.uitofp (F := Ideal) .f32 (IntOp.andi (IntOp.cmpi .eq (L (ix1 i)) (L (ix1 j)))
      (~~~IntOp.cmpi .eq (IntOp.addi (BitVec.ofNat 32 i.val) 0#32) (BitVec.ofNat 32 j.val))) := by
    pointwise [ipos, same]
  have hij : (BitVec.ofNat 32 i.val + 0#32 = BitVec.ofNat 32 j.val) ↔ i = j := by
    rw [BitVec.add_zero, BitVec.toNat_inj.symm, BitVec.toNat_ofNat, BitVec.toNat_ofNat, Fin.ext_iff]
    have := i.isLt
    have := j.isLt
    omega
  have e : IntOp.andi (IntOp.cmpi .eq (L (ix1 i)) (L (ix1 j)))
      (~~~IntOp.cmpi .eq (IntOp.addi (BitVec.ofNat 32 i.val) 0#32) (BitVec.ofNat 32 j.val))
      = BitVec.ofBool (decide (L (ix1 i) = L (ix1 j) ∧ i ≠ j)) := by
    show BitVec.ofBool (L (ix1 i) == L (ix1 j)) &&& ~~~BitVec.ofBool (BitVec.ofNat 32 i.val + 0#32 == BitVec.ofNat 32 j.val) = _
    rw [beq_eq_decide, beq_eq_decide, and_not_bool]
    exact congrArg BitVec.ofBool (decide_eq_decide.2 (and_congr_right fun _ => not_congr hij))
  rw [h, e, uitofp_bool]
  simp [pm]

theorem ineg_apply (L : IVec S2048 32) (i j : Fin 2048) : ineg L (ix2 i j) = ((nm (fun r => L (ix1 r)) i j : ℝ) : EReal) := by
  have h : ineg L (ix2 i j) = FloatOps.uitofp (F := Ideal) .f32 (~~~IntOp.cmpi .eq (L (ix1 i)) (L (ix1 j))) := by
    pointwise [ineg, same]
  have e : ~~~IntOp.cmpi .eq (L (ix1 i)) (L (ix1 j)) = BitVec.ofBool (decide (¬ L (ix1 i) = L (ix1 j))) := by
    show ~~~BitVec.ofBool (L (ix1 i) == L (ix1 j)) = _
    rw [beq_eq_decide, not_bool]
  rw [h, e, uitofp_bool]
  simp [nm]

theorem npos_apply (L : IVec S2048 32) (i : Fin 2048) : npos L (ix1 i) = ((count (fun r => L (ix1 r)) i : ℝ) : EReal) := by
  have h : npos L (ix1 i) = ∑ j, ipos L (ix2 i j) := by pointwise [npos]
  rw [h, Finset.sum_congr rfl fun j _ => ipos_apply L i j, coe_sum]
  rfl

theorem mids_apply (k : Fin 11) : mids (ix1 k) = ((2 * (k.val : ℝ) / 5 : ℝ) : EReal) := by
  have h : mids (ix1 k) = if _h : k.val < 10 then
      0 * (1 - Ideal.div (FloatOps.sitofp (F := Ideal) .f32 (BitVec.ofNat 32 k.val)) (Ideal.ofBits .f32 1092616192#32))
        + Ideal.ofBits .f32 1082130432#32 * Ideal.div (FloatOps.sitofp (F := Ideal) .f32 (BitVec.ofNat 32 k.val)) (Ideal.ofBits .f32 1092616192#32)
      else Ideal.ofBits .f32 1082130432#32 := by
    pointwise [mids, fn_main_v36]
  have hs : (FloatOps.sitofp (F := Ideal) .f32 (BitVec.ofNat 32 k.val) : EReal) = ((k.val : ℝ) : EReal) := by
    show (((BitVec.ofNat 32 k.val).toInt : ℝ) : EReal) = _
    fin_cases k <;> simp
  rw [h, hs, four_val, ten_val]
  split
  · rw [coe_div (by norm_num), zero_mul, zero_add, ← EReal.coe_mul]
    congr 1
    ring
  · next hk =>
    have : k.val = 10 := by omega
    rw [this]
    norm_num

theorem hist_apply (w : FVec Ideal S11x2048x2048 .f32) (mask : FVec Ideal S2048x2048 .f32) (i : Fin 2048) (k : Fin 11) :
    hist w mask (ix2 i k) = ∑ j, w (ix3 k i j) * mask (ix2 i j) := by
  pointwise [hist]

theorem cells_apply (H C A : FVec Ideal S2048x11 .f32) (i : Fin 2048) (k : Fin 11) :
    cells H C A (ix2 i k) = cell (H (ix2 i k)) (C (ix2 i k)) (A (ix2 i k)) := by
  pointwise [cells, cell, counts]

theorem tail_apply (H C A : FVec Ideal S2048x11 .f32) (n : FVec Ideal S2048 .f32) :
    tail (cells H C A) n ix0 = loss (fun i k => H (ix2 i k)) (fun i k => C (ix2 i k)) (fun i k => A (ix2 i k)) (fun i => n (ix1 i)) := by
  have h : tail (cells H C A) n ix0 = Ideal.div
      (∑ i : Fin 2048, if 0 < n (ix1 i) then
          1 - (if 0 < n (ix1 i) then Ideal.div (∑ k : Fin 11, cells H C A (ix2 i k)) (if 0 < n (ix1 i) then n (ix1 i) else 1) else 0)
        else 0)
      (max (∑ i : Fin 2048, FloatOps.uitofp (F := Ideal) .f32 (BitVec.ofBool (decide (0 < n (ix1 i))))) 1) := by
    pointwise [tail]
  have e : ∀ i : Fin 2048, (FloatOps.uitofp (F := Ideal) .f32 (BitVec.ofBool (decide (0 < n (ix1 i)))) : EReal) = if 0 < n (ix1 i) then 1 else 0 := fun i => by
    rw [uitofp_bool]
    by_cases hn : 0 < n (ix1 i) <;> simp [hn]
  rw [h, Finset.sum_congr rfl fun i _ => e i]
  simp only [cells_apply]
  rfl

variable (x : Fin 2048 → Fin 128 → ℝ) (X : FVec Ideal S2048x128 .f32) (hX : ∀ i d, X (ix2 i d) = ((x i d : ℝ) : EReal))
  (hx : ∀ i, ∑ d, x i d * x i d = 1) (L : IVec S2048 32)
include hX hx

theorem pulse_apply (i j : Fin 2048) (k : Fin 11) : pulse (dist X) mids (ix3 k i j) = ((bump x k.val i j : ℝ) : EReal) := by
  have hd : dist X (ix2 i j) = ((max (1 + 1 - 2 * gram x i j) 0 : ℝ) : EReal) := by
    have h : dist X (ix2 i j) = max (∑ d, X (ix2 i d) * X (ix2 i d) + ∑ d, X (ix2 j d) * X (ix2 j d)
        - Ideal.ofBits .f32 1073741824#32 * ∑ d, X (ix2 i d) * X (ix2 j d)) 0 := by
      pointwise [dist]
    rw [h]
    simp only [hX]
    rw [coe_sum_mul, coe_sum_mul, coe_sum_mul, hx, hx, two_val, ← EReal.coe_add, ← EReal.coe_mul, ← EReal.coe_sub, ← EReal.coe_zero, coe_max]
    rfl
  have h : pulse (dist X) mids (ix3 k i j) = max (1 - Ideal.div (FloatOps.absf (F := Ideal) (φ := .f32) (dist X (ix2 i j) - mids (ix1 k)))
      (Ideal.div (Ideal.ofBits .f32 1082130432#32) (Ideal.ofBits .f32 1092616192#32))) 0 := by
    pointwise [pulse]
  rw [h, hd, mids_apply, four_val, ten_val, coe_div (by norm_num), ← EReal.coe_sub, coe_abs, coe_div (by norm_num), ← EReal.coe_one, ← EReal.coe_sub,
    ← EReal.coe_zero, coe_max]
  unfold bump
  norm_num

theorem histPos_apply (i : Fin 2048) (k : Fin 11) : hist (pulse (dist X) mids) (ipos L) (ix2 i k) = ((binPos x (fun r => L (ix1 r)) i k.val : ℝ) : EReal) := by
  rw [hist_apply, Finset.sum_congr rfl fun j _ => by rw [pulse_apply x X hX hx, ipos_apply], coe_sum_mul]
  rfl

theorem histNeg_apply (i : Fin 2048) (k : Fin 11) : hist (pulse (dist X) mids) (ineg L) (ix2 i k) = ((binNeg x (fun r => L (ix1 r)) i k.val : ℝ) : EReal) := by
  rw [hist_apply, Finset.sum_congr rfl fun j _ => by rw [pulse_apply x X hX hx, ineg_apply], coe_sum_mul]
  rfl

theorem cumPos_apply (i : Fin 2048) (k : Fin 11) :
    cum (hist (pulse (dist X) mids) (ipos L)) (ix2 i k) = ((cumPos x (fun r => L (ix1 r)) i k.val : ℝ) : EReal) := by
  rw [cum_apply _ i k (fun n => ((binPos x (fun r => L (ix1 r)) i n : ℝ) : EReal)) fun n => histPos_apply x X hX hx L i n, coe_sum, sum_binPos]

theorem cumAll_apply (i : Fin 2048) (k : Fin 11) :
    cum (addf (hist (pulse (dist X) mids) (ipos L)) (hist (pulse (dist X) mids) (ineg L))) (ix2 i k)
      = ((cumAll x (fun r => L (ix1 r)) i k.val : ℝ) : EReal) := by
  rw [cum_apply _ i k (fun n => ((binPos x (fun r => L (ix1 r)) i n + binNeg x (fun r => L (ix1 r)) i n : ℝ) : EReal)) fun n => by
    rw [EReal.coe_add, ← histPos_apply x X hX hx L i n, ← histNeg_apply x X hX hx L i n]
    rfl, coe_sum, sum_binAll]

omit hX in
/-- The reference's result, where its normalised rows are real and of square sum one. -/
theorem result_apply (E : FVec Ideal S2048x128 .f32) (hE : ∀ i d, emb E (ix2 i d) = ((x i d : ℝ) : EReal)) :
    result E L ix0 = loss (fun i k => ((binPos x (fun r => L (ix1 r)) i k.val : ℝ) : EReal)) (fun i k => ((cumPos x (fun r => L (ix1 r)) i k.val : ℝ) : EReal))
      (fun i k => ((cumAll x (fun r => L (ix1 r)) i k.val : ℝ) : EReal)) (fun i => ((count (fun r => L (ix1 r)) i : ℝ) : EReal)) := by
  unfold result
  rw [tail_apply]
  simp only [histPos_apply x _ hE hx, cumPos_apply x _ hE hx, cumAll_apply x _ hE hx, npos_apply]

end Cert.ReferenceIdeal.Stages

end
-- ==== Proof.Valid.lean ====
module

public import proofs.«01_k».proof.Proof.Gen.Pre_valid
public import proofs.«01_k».proof.Proof.Reals
public import Idealize.ShloMosaic.Lib.ReduceAll

@[expose] public section

set_option maxRecDepth 16384

noncomputable section

/-! What the precondition gives: real normalised rows of square sum one, and labels that name a class. -/

namespace Cert.Pre_valid.Valid

open Idealize.ShloMosaic Idealize.ShloMosaic.TcCoe Idealize.ShloMosaic.Tactic
open Cert.Pre_valid Cert.Pre_valid.Gen Cert.Reals
open scoped BigOperators

/-- The square sum of a row. -/
def sq (E : FVec Ideal S2048x128 .f32) (i : Fin 2048) : EReal := ∑ d, E (ix2 i d) * E (ix2 i d)

/-- The norm of a row is the root of its square sum. -/
theorem norm_apply (E : FVec Ideal S2048x128 .f32) (i : Fin 2048) : fn_norm (F := Ideal) E (ix2 i 0) = Ideal.sqrt (sq E i) := by
  unfold sq
  pointwise [fn_norm]

/-- The precondition, row by row. -/
theorem split (E : FVec Ideal S2048x128 .f32) (L : IVec S2048 32) (h : fn (F := Ideal) E L ix0 = 1#1) :
    (∀ i, Ideal.ofBits .f32 0x2B8CBCCC#32 ≤ Ideal.sqrt (sq E i) ∧ Ideal.sqrt (sq E i) ≠ ⊤) ∧ ∀ i, (L (ix1 i)).toNat < 64 := by
  haveI : Subsingleton S_.Idx := ⟨fun a b => funext fun k => k.elim0⟩
  obtain ⟨h1, h2⟩ := IntOp.andi_eq_one.1 h
  constructor
  · intro i
    have h3 := Host.reduce_andi_all _ _ _ _ _ h1 (ix2 i 0)
    obtain ⟨h4, h5⟩ := IntOp.andi_eq_one.1 h3
    have h6 : Ideal.cmp .oge (fn_norm (F := Ideal) E (ix2 i 0)) (Ideal.ofBits .f32 0x2B8CBCCC#32) = 1 := h4
    have h7 : Ideal.cmp .olt (fn_norm (F := Ideal) E (ix2 i 0)) (Ideal.ofBits .f32 0x7F800000#32) = 1 := h5
    rw [norm_apply, Ideal.cmp_oge_eq_one] at h6
    rw [norm_apply, Ideal.cmp_olt_eq_one] at h7
    exact ⟨h6, ne_top_of_lt h7⟩
  · intro i
    have h3 := Host.reduce_andi_all _ _ _ _ _ h2 (ix1 i)
    obtain ⟨h4, h5⟩ := IntOp.andi_eq_one.1 h3
    have h6 : (0#32 : BitVec 32).toInt ≤ (L (ix1 i)).toInt := IntOp.cmpi_sge.1 h4
    have h7 : (L (ix1 i)).toInt < (64#32 : BitVec 32).toInt := IntOp.cmpi_slt.1 h5
    generalize L (ix1 i) = w at h6 h7 ⊢
    rw [show (0#32 : BitVec 32).toInt = 0 from rfl, BitVec.toInt_eq_toNat_cond] at h6
    rw [show (64#32 : BitVec 32).toInt = 64 from rfl, BitVec.toInt_eq_toNat_cond] at h7
    have := w.isLt
    split at h6 <;> split at h7 <;> omega

/-- A square is never negative. -/
theorem sq_nonneg' (x : EReal) : 0 ≤ x * x := by
  induction x using EReal.rec with
  | bot => rw [EReal.bot_mul_bot]; exact le_top
  | top => rw [EReal.top_mul_top]; exact le_top
  | coe r => rw [← EReal.coe_mul]; exact EReal.coe_nonneg.2 (mul_self_nonneg r)

/-- A row with a finite norm has real entries. -/
theorem entry_real (E : FVec Ideal S2048x128 .f32) (i : Fin 2048) (h : Ideal.sqrt (sq E i) ≠ ⊤) (d : Fin 128) :
    ∃ r : ℝ, E (ix2 i d) = (r : EReal) := by
  have hle : E (ix2 i d) * E (ix2 i d) ≤ sq E i := Finset.single_le_sum (f := fun e => E (ix2 i e) * E (ix2 i e)) (fun e _ => sq_nonneg' _) (Finset.mem_univ d)
  have hne : E (ix2 i d) * E (ix2 i d) ≠ ⊤ := by
    intro ht
    rw [ht] at hle
    exact h (by rw [top_le_iff.1 hle, Ideal.sqrt_top])
  generalize E (ix2 i d) = x at hne ⊢
  induction x using EReal.rec with
  | bot => exact absurd EReal.bot_mul_bot hne
  | top => exact absurd EReal.top_mul_top hne
  | coe r => exact ⟨r, rfl⟩

/-- Under the precondition the normalised rows are real and have square sum one, and the labels name classes. -/
theorem rows (E : FVec Ideal S2048x128 .f32) (L : IVec S2048 32) (h : fn (F := Ideal) E L ix0 = 1#1) :
    (∃ x : Fin 2048 → Fin 128 → ℝ, (∀ i, ∑ d, x i d * x i d = 1)
      ∧ ∀ i d, Ideal.div (E (ix2 i d)) (max (Ideal.sqrt (∑ e, E (ix2 i e) * E (ix2 i e))) (Ideal.ofBits .f32 0x2B8CBCCC#32)) = (x i d : EReal))
      ∧ ∀ i, (L (ix1 i)).toNat < 64 := by
  obtain ⟨hn, hL⟩ := split E L h
  refine ⟨?_, hL⟩
  choose y hy using fun i d => entry_real E i (hn i).2 d
  obtain ⟨c, hc, hcv⟩ := clamp_pos
  have hsq : ∀ i, Ideal.sqrt (∑ e, E (ix2 i e) * E (ix2 i e)) = ((√(∑ e, y i e * y i e) : ℝ) : EReal) := by
    intro i
    rw [show (∑ e, E (ix2 i e) * E (ix2 i e)) = ((∑ e, y i e * y i e : ℝ) : EReal) from by simp only [hy]; exact coe_sum_mul _ _ _, Ideal.sqrt_coe,
      if_neg (not_lt.2 (Finset.sum_nonneg fun e _ => mul_self_nonneg _))]
  have hge : ∀ i, c ≤ √(∑ e, y i e * y i e) := by
    intro i
    have := (hn i).1
    rw [hcv, sq, hsq] at this
    exact EReal.coe_le_coe_iff.1 this
  refine ⟨fun i d => y i d / √(∑ e, y i e * y i e), fun i => RealMath.sum_sq_div_norm (y i) (hc.trans_le (hge i)), fun i d => ?_⟩
  rw [hsq, hcv, max_eq_left (EReal.coe_le_coe_iff.2 (hge i)), hy, coe_div (hc.trans_le (hge i)).ne']

end Cert.Pre_valid.Valid

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_valid
public import proofs.«01_k».proof.Proof.Gen.ReferenceIdeal.Run
public import proofs.«01_k».proof.Proof.KernelOut
public import proofs.«01_k».proof.Proof.RefRead
public import proofs.«01_k».proof.Proof.Valid
public import Idealize.ShloMosaic.Adequacy
public import Idealize.ShloMosaic.Init

@[expose] public section

set_option maxRecDepth 16384

noncomputable section

namespace Cert.Proof

open Idealize.ShloMosaic Idealize.SL.Sem Cert.Kernel

/-- Under the precondition the kernel's loss is the reference's. -/
theorem value (m : (ℓ : Loc Cert.KernelIdeal.nD Cert.KernelIdeal.τ Cert.KernelIdeal.sig) → Buf (Elt Ideal) ℓ) (c : Dev Cert.KernelIdeal.nD)
    (E : FVec Ideal Cert.Pre_valid.S2048x128 .f32) (L : IVec Cert.Pre_valid.S2048 32)
    (hm : E = m ((c.tc : Thread Cert.KernelIdeal.nD Cert.KernelIdeal.τ).loc Cert.KernelIdeal.main_arg0))
    (hl : L = m ((c.tc : Thread Cert.KernelIdeal.nD Cert.KernelIdeal.τ).loc Cert.KernelIdeal.main_arg1))
    (h : Cert.Pre_valid.fn (F := Ideal) E L ix0 = 1#1) :
    (Cert.KernelIdeal.Gen.dats m 0 c).arrAt 5 (Cert.KernelIdeal.cfgs 0).N (ix2 0 0) = Cert.ReferenceIdeal.Stages.result E L ix0 := by
  obtain ⟨⟨x, hx, hE⟩, hL⟩ := Cert.Pre_valid.Valid.rows E L h
  rw [Cert.ReferenceIdeal.Stages.result_apply x hx L E fun i d => (Cert.ReferenceIdeal.Stages.emb_apply E i d).trans (hE i d)]
  exact Cert.KernelIdeal.Value1.out_apply m c x hx E hm hE (fun r => L (ix1 r)) (fun i => congrFun hl _) hL

/-- The reference runs, leaves its arguments alone and ends quiescent. -/
theorem quiescent_reference : quiescent_ReferenceIdeal := by
  intro m g _
  exact (θ_run Cert.ReferenceIdeal.defs _ _).mono (fun r h => ⟨fun c => (h c).2, sem_eq_zero_of_no_sems rfl r.2⟩) (Cert.ReferenceIdeal.Value.run m g)

/-- The two programs' losses agree under the precondition. -/
theorem algebraic : algebraic_KernelIdeal_ReferenceIdeal_pre_valid := by
  intro m g m' g' hpre hagree
  refine ⟨_, Cert.KernelIdeal.Value1.run m g, (θ_run Cert.ReferenceIdeal.defs _ _).mono (fun r h c => ⟨(h c).1.trans ?_, (h c).2⟩)
    (Cert.ReferenceIdeal.Value.run m' g')⟩
  refine (Cert.ReferenceIdeal.Stages.res_eq m' c).trans ?_
  rw [(hagree c).1, (hagree c).2]
  funext y
  rw [show y = ix0 from funext fun k => k.elim0]
  refine (value m c _ _ rfl rfl (congrFun (hpre c) ix0)).symm.trans ?_
  exact (by pointwise)

theorem claim : Cert.Claim := ⟨Cert.Kernel.Gen.facts, Cert.KernelIdeal.Gen.facts, Cert.ReferenceIdeal.Gen.facts, Cert.Pre_valid.Gen.facts,
  fun m g _ => Cert.Kernel.Gen.frame m g, fun m g _ => Cert.KernelIdeal.Gen.frame m g, fun m g _ => Cert.KernelIdeal.Gen.frame m g,
  quiescent_reference, fun m g _ => quiescent_reference m g trivial, trivial, algebraic⟩

end Cert.Proof

end
